-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_normal_scales [hPre_normal_scales : Cert.Pre_normal_scales.Facts] (m : (ℓ : Loc Cert.DownIdeal.nD Cert.DownIdeal.τ Cert.DownIdeal.sig) → Buf (Elt Ideal) ℓ) : Prop :=
  ∀ c : Dev Cert.DownIdeal.nD,
    (Cert.Pre_normal_scales.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).1 = (fun _ => 1#1)
    ∧ (Cert.Pre_normal_scales.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).2.1 = (fun _ => 1#1)
    ∧ (Cert.Pre_normal_scales.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).2.2.1 = (fun _ => 1#1)
    ∧ (Cert.Pre_normal_scales.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).2.2.2 = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_normal_scales [hPre_normal_scales : Cert.Pre_normal_scales.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_normal_scales.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).1 = (fun _ => 1#1)
    ∧ (Cert.Pre_normal_scales.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).2.1 = (fun _ => 1#1)
    ∧ (Cert.Pre_normal_scales.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).2.2.1 = (fun _ => 1#1)
    ∧ (Cert.Pre_normal_scales.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).2.2.2 = (fun _ => 1#1)

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvIdeal_normal_weight [hPre_normal_weight : Cert.Pre_normal_weight.Facts] (m : (ℓ : Loc Cert.QkvIdeal.nD Cert.QkvIdeal.τ Cert.QkvIdeal.sig) → Buf (Elt Ideal) ℓ) : Prop :=
  ∀ c : Dev Cert.QkvIdeal.nD,
    (Cert.Pre_normal_weight.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3))).1 = (fun _ => 1#1)
    ∧ (Cert.Pre_normal_weight.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3))).2 = (fun _ => 1#1)

def Pre_QkvRefIdeal (m : (ℓ : Loc Cert.QkvRefIdeal.nD Cert.QkvRefIdeal.τ Cert.QkvRefIdeal.sig) → Buf (Elt Ideal) ℓ) : Prop :=
  True

def Pre_QkvRefIdeal_normal_weight [hPre_normal_weight : Cert.Pre_normal_weight.Facts] (m : (ℓ : Loc Cert.QkvRefIdeal.nD Cert.QkvRefIdeal.τ Cert.QkvRefIdeal.sig) → Buf (Elt Ideal) ℓ) : Prop :=
  ∀ c : Dev Cert.QkvRefIdeal.nD,
    (Cert.Pre_normal_weight.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3))).1 = (fun _ => 1#1)
    ∧ (Cert.Pre_normal_weight.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3))).2 = (fun _ => 1#1)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownIdeal_pre_normal_scales [hDownIdeal : Cert.DownIdeal.Facts] [hPre_normal_scales : Cert.Pre_normal_scales.Facts] : Prop :=
  ∀ (m : (ℓ : Loc Cert.DownIdeal.nD Cert.DownIdeal.τ Cert.DownIdeal.sig) → Buf (Elt Ideal) ℓ) (g : Dev Cert.DownIdeal.nD → PrngReg), Pre_DownIdeal_normal_scales m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_DownRefIdeal_pre_normal_scales [hDownRefIdeal : Cert.DownRefIdeal.Facts] [hPre_normal_scales : Cert.Pre_normal_scales.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_normal_scales m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvIdeal_pre_normal_weight [hQkvIdeal : Cert.QkvIdeal.Facts] [hPre_normal_weight : Cert.Pre_normal_weight.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal_normal_weight m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3))
      ∧ r.2.sem = fun _ => 0)

def quiescent_QkvRefIdeal_pre_normal_weight [hQkvRefIdeal : Cert.QkvRefIdeal.Facts] [hPre_normal_weight : Cert.Pre_normal_weight.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal_normal_weight m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3))
      ∧ r.2.sem = fun _ => 0)

def preserves_Down_DownIdeal : Prop :=
  True

def algebraic_DownIdeal_DownRefIdeal_pre_normal_scales [hDownIdeal : Cert.DownIdeal.Facts] [hDownRefIdeal : Cert.DownRefIdeal.Facts] [hPre_normal_scales : Cert.Pre_normal_scales.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal_normal_scales m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v6)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v6) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v2_0)) (v1 : (c : Dev Cert.RopeIdeal.nD) → Buf (Elt Ideal) ((c.tc : Thread Cert.RopeIdeal.nD Cert.RopeIdeal.τ).loc Cert.RopeIdeal.main_v2_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v2_0) = v0 c
          ∧ r.2.mem ((c.tc : Thread Cert.RopeIdeal.nD Cert.RopeIdeal.τ).loc Cert.RopeIdeal.main_v2_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v9) = v0 c
          ∧ r.2.mem ((c.tc : Thread Cert.RopeRefIdeal.nD Cert.RopeRefIdeal.τ).loc Cert.RopeRefIdeal.main_v12) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_Qkv_QkvIdeal : Prop :=
  True

def algebraic_QkvIdeal_QkvRefIdeal_pre_normal_weight [hQkvIdeal : Cert.QkvIdeal.Facts] [hQkvRefIdeal : Cert.QkvRefIdeal.Facts] [hPre_normal_weight : Cert.Pre_normal_weight.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal_normal_weight m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v15)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v15) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v10) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3))

def Claim : Prop :=
  ∃ (hDown : Cert.Down.Facts) (hDownIdeal : Cert.DownIdeal.Facts) (hDownRefIdeal : Cert.DownRefIdeal.Facts) (hRope : Cert.Rope.Facts) (hRopeIdeal : Cert.RopeIdeal.Facts) (hRopeRefIdeal : Cert.RopeRefIdeal.Facts) (hQkv : Cert.Qkv.Facts) (hQkvIdeal : Cert.QkvIdeal.Facts) (hQkvRefIdeal : Cert.QkvRefIdeal.Facts) (hPre_normal_scales : Cert.Pre_normal_scales.Facts) (hPre_normal_weight : Cert.Pre_normal_weight.Facts),
    quiescent_Down (hDown := hDown)
    ∧ quiescent_DownIdeal (hDownIdeal := hDownIdeal)
    ∧ quiescent_DownIdeal_pre_normal_scales (hDownIdeal := hDownIdeal) (hPre_normal_scales := hPre_normal_scales)
    ∧ quiescent_DownRefIdeal (hDownRefIdeal := hDownRefIdeal)
    ∧ quiescent_DownRefIdeal_pre_normal_scales (hDownRefIdeal := hDownRefIdeal) (hPre_normal_scales := hPre_normal_scales)
    ∧ quiescent_Rope (hRope := hRope)
    ∧ quiescent_RopeIdeal (hRopeIdeal := hRopeIdeal)
    ∧ quiescent_RopeRefIdeal (hRopeRefIdeal := hRopeRefIdeal)
    ∧ quiescent_Qkv (hQkv := hQkv)
    ∧ quiescent_QkvIdeal (hQkvIdeal := hQkvIdeal)
    ∧ quiescent_QkvIdeal_pre_normal_weight (hQkvIdeal := hQkvIdeal) (hPre_normal_weight := hPre_normal_weight)
    ∧ quiescent_QkvRefIdeal (hQkvRefIdeal := hQkvRefIdeal)
    ∧ quiescent_QkvRefIdeal_pre_normal_weight (hQkvRefIdeal := hQkvRefIdeal) (hPre_normal_weight := hPre_normal_weight)
    ∧ preserves_Down_DownIdeal
    ∧ algebraic_DownIdeal_DownRefIdeal_pre_normal_scales (hDownIdeal := hDownIdeal) (hDownRefIdeal := hDownRefIdeal) (hPre_normal_scales := hPre_normal_scales)
    ∧ preserves_Rope_RopeIdeal
    ∧ algebraic_RopeIdeal_RopeRefIdeal (hRopeIdeal := hRopeIdeal) (hRopeRefIdeal := hRopeRefIdeal)
    ∧ preserves_Qkv_QkvIdeal
    ∧ algebraic_QkvIdeal_QkvRefIdeal_pre_normal_weight (hQkvIdeal := hQkvIdeal) (hQkvRefIdeal := hQkvRefIdeal) (hPre_normal_weight := hPre_normal_weight)
-- ==== Pre_normal_scales.lean ====
abbrev S6x1024x12288 : Shape := ⟨3, ![6, 1024, 12288]⟩
abbrev S6x1024x384 : Shape := ⟨3, ![6, 1024, 384]⟩
abbrev S12288x4096 : Shape := ⟨2, ![12288, 4096]⟩
abbrev S384x4096 : Shape := ⟨2, ![384, 4096]⟩
abbrev S6x1024x4096 : Shape := ⟨3, ![6, 1024, 4096]⟩
abbrev S_ : Shape := ⟨0, ![]⟩

class Facts : Prop where
  bcast_S_S6x1024x384 : S_.BroadcastsInDim S6x1024x384 (![] : Fin 0 → Fin S6x1024x384.rank)
  bcast_S_S384x4096 : S_.BroadcastsInDim S384x4096 (![] : Fin 0 → Fin S384x4096.rank)

variable [Facts]

def fn {F : FTy → Type} [FloatOps F] (main_arg0 : FVec F S6x1024x12288 .fp8e4m3) (main_arg1 : IVec S6x1024x384 8) (main_arg2 : FVec F S12288x4096 .fp8e4m3) (main_arg3 : IVec S384x4096 8) (main_arg4 : FVec F S6x1024x4096 .bf16) : IVec S6x1024x384 1 × IVec S6x1024x384 1 × IVec S384x4096 1 × IVec S384x4096 1 :=
  let main_c : IVec S_ 8 := constantI S_ 8 1#8
  let main_v0 : IVec S6x1024x384 8 := broadcastInDim S6x1024x384 ![] bcast_S_S6x1024x384 main_c
  let main_v1 : IVec S6x1024x384 1 := cmpi .uge main_arg1 main_v0
  let main_c_0 : IVec S_ 8 := constantI S_ 8 254#8
  let main_v2 : IVec S6x1024x384 8 := broadcastInDim S6x1024x384 ![] bcast_S_S6x1024x384 main_c_0
  let main_v3 : IVec S6x1024x384 1 := cmpi .ule main_arg1 main_v2
  let main_c_1 : IVec S_ 8 := constantI S_ 8 1#8
  let main_v4 : IVec S384x4096 8 := broadcastInDim S384x4096 ![] bcast_S_S384x4096 main_c_1
  let main_v5 : IVec S384x4096 1 := cmpi .uge main_arg3 main_v4
  let main_c_2 : IVec S_ 8 := constantI S_ 8 254#8
  let main_v6 : IVec S384x4096 8 := broadcastInDim S384x4096 ![] bcast_S_S384x4096 main_c_2
  let main_v7 : IVec S384x4096 1 := cmpi .ule main_arg3 main_v6
  (main_v1, main_v3, main_v5, main_v7)
-- ==== Pre_normal_weight.lean ====
abbrev S6x1024x4096 : Shape := ⟨3, ![6, 1024, 4096]⟩
abbrev S4096x6144 : Shape := ⟨2, ![4096, 6144]⟩
abbrev S128x6144 : Shape := ⟨2, ![128, 6144]⟩
abbrev S6x1024 : Shape := ⟨2, ![6, 1024]⟩
abbrev S_ : Shape := ⟨0, ![]⟩

class Facts : Prop where
  bcast_S_S128x6144 : S_.BroadcastsInDim S128x6144 (![] : Fin 0 → Fin S128x6144.rank)

variable [Facts]

def fn {F : FTy → Type} [FloatOps F] (main_arg0 : FVec F S6x1024x4096 .bf16) (main_arg1 : FVec F S4096x6144 .fp8e4m3) (main_arg2 : IVec S128x6144 8) (main_arg3 : IVec S6x1024 32) : IVec S128x6144 1 × IVec S128x6144 1 :=
  let main_c : IVec S_ 8 := constantI S_ 8 1#8
  let main_v0 : IVec S128x6144 8 := broadcastInDim S128x6144 ![] bcast_S_S128x6144 main_c
  let main_v1 : IVec S128x6144 1 := cmpi .uge main_arg2 main_v0
  let main_c_0 : IVec S_ 8 := constantI S_ 8 254#8
  let main_v2 : IVec S128x6144 8 := broadcastInDim S128x6144 ![] bcast_S_S128x6144 main_c_0
  let main_v3 : IVec S128x6144 1 := cmpi .ule main_arg2 main_v2
  (main_v1, main_v3)
-- ==== Down.lean ====
abbrev S6x1024x12288 : Shape := ⟨3, ![6, 1024, 12288]⟩
abbrev S6x1024x384 : Shape := ⟨3, ![6, 1024, 384]⟩
abbrev S12288x4096 : Shape := ⟨2, ![12288, 4096]⟩
abbrev S384x4096 : Shape := ⟨2, ![384, 4096]⟩
abbrev S6x1024x4096 : Shape := ⟨3, ![6, 1024, 4096]⟩
abbrev S6144x12288 : Shape := ⟨2, ![6144, 12288]⟩
abbrev S6144x384 : Shape := ⟨2, ![6144, 384]⟩
abbrev S6144x4096 : Shape := ⟨2, ![6144, 4096]⟩
abbrev S6144x12x32 : Shape := ⟨3, ![6144, 12, 32]⟩
abbrev S12x6144x32 : Shape := ⟨3, ![12, 6144, 32]⟩
abbrev S_ : Shape := ⟨0, ![]⟩
abbrev S12x6144x128 : Shape := ⟨3, ![12, 6144, 128]⟩
abbrev S1024x1024 : Shape := ⟨2, ![1024, 1024]⟩
abbrev S1x1024x128 : Shape := ⟨3, ![1, 1024, 128]⟩
abbrev S32x1024 : Shape := ⟨2, ![32, 1024]⟩
abbrev S1x32x128 : Shape := ⟨3, ![1, 32, 128]⟩
abbrev S32x128 : Shape := ⟨2, ![32, 128]⟩
abbrev S8x128 : Shape := ⟨2, ![8, 128]⟩
abbrev S8x128x1 : Shape := ⟨3, ![8, 128, 1]⟩
abbrev S16x128 : Shape := ⟨2, ![16, 128]⟩
abbrev S32x1x1024 : Shape := ⟨3, ![32, 1, 1024]⟩
abbrev S32x8x1024 : Shape := ⟨3, ![32, 8, 1024]⟩
abbrev S256x1024 : Shape := ⟨2, ![256, 1024]⟩
abbrev S512x1024 : Shape := ⟨2, ![512, 1024]⟩
abbrev S32x1x16x1024 : Shape := ⟨4, ![32, 1, 16, 1024]⟩
abbrev S32x2x16x1024 : Shape := ⟨4, ![32, 2, 16, 1024]⟩

abbrev nBuf : Space → Nat
  | .hbm => 14
  | .vmem => 14
  | .smem => 0
  | _ => 0

abbrev bufTy : (tb : Table) → Fin (tcTables nBuf tb) → BufTy
  | .hbm, ⟨0, _⟩ => ⟨S6x1024x12288, .fp8e4m3⟩
  | .hbm, ⟨1, _⟩ => ⟨S6x1024x384, .i8⟩
  | .hbm, ⟨2, _⟩ => ⟨S12288x4096, .fp8e4m3⟩
  | .hbm, ⟨3, _⟩ => ⟨S384x4096, .i8⟩
  | .hbm, ⟨4, _⟩ => ⟨S6x1024x4096, .bf16⟩
  | .hbm, ⟨5, _⟩ => ⟨S6144x12288, .fp8e4m3⟩
  | .hbm, ⟨6, _⟩ => ⟨S6144x384, .i8⟩
  | .hbm, ⟨7, _⟩ => ⟨S6144x4096, .bf16⟩
  | .hbm, ⟨8, _⟩ => ⟨S6144x12x32, .i8⟩
  | .hbm, ⟨9, _⟩ => ⟨S12x6144x32, .i8⟩
  | .hbm, ⟨10, _⟩ => ⟨S_, .i32⟩
  | .hbm, ⟨11, _⟩ => ⟨S_, .i8⟩
  | .hbm, ⟨12, _⟩ => ⟨S12x6144x128, .i8⟩
  | .hbm, ⟨13, _⟩ => ⟨S6144x4096, .bf16⟩
  | .local _ .vmem, ⟨0, _⟩ => ⟨S1024x1024, .fp8e4m3⟩
  | .local _ .vmem, ⟨1, _⟩ => ⟨S1024x1024, .fp8e4m3⟩
  | .local _ .vmem, ⟨2, _⟩ => ⟨S1x1024x128, .i8⟩
  | .local _ .vmem, ⟨3, _⟩ => ⟨S1x1024x128, .i8⟩
  | .local _ .vmem, ⟨4, _⟩ => ⟨S1024x1024, .fp8e4m3⟩
  | .local _ .vmem, ⟨5, _⟩ => ⟨S1024x1024, .fp8e4m3⟩
  | .local _ .vmem, ⟨6, _⟩ => ⟨S32x1024, .i8⟩
  | .local _ .vmem, ⟨7, _⟩ => ⟨S32x1024, .i8⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | _, _ => ⟨S6x1024x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![6, 4, 12], ![false, false, false]⟩

def k0_cond3 (i : grid0.Coords) : BitVec 1 :=
  let arg2 : BitVec 32 := BitVec.ofNat 32 (i 2).val
  let c11_i32 : BitVec 32 := 11#32
  let v13596 : BitVec 1 := Scalar.cmpi .eq arg2 c11_i32
  let v13597 : BitVec 32 := Scalar.extui v13596
  let c0_i32_4832 : BitVec 32 := 0#32
  let v13598 : BitVec 1 := Scalar.cmpi .ne v13597 c0_i32_4832
  v13598

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S32x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownRefIdeal.lean ====
abbrev S6x1024x12288 : Shape := ⟨3, ![6, 1024, 12288]⟩
abbrev S6x1024x384 : Shape := ⟨3, ![6, 1024, 384]⟩
abbrev S12288x4096 : Shape := ⟨2, ![12288, 4096]⟩
abbrev S384x4096 : Shape := ⟨2, ![384, 4096]⟩
abbrev S6x1024x4096 : Shape := ⟨3, ![6, 1024, 4096]⟩
abbrev S6144x12288 : Shape := ⟨2, ![6144, 12288]⟩
abbrev S6144x384 : Shape := ⟨2, ![6144, 384]⟩
abbrev S6144x4096 : Shape := ⟨2, ![6144, 4096]⟩
abbrev S6144x384x32 : Shape := ⟨3, ![6144, 384, 32]⟩
abbrev S6144x384x1 : Shape := ⟨3, ![6144, 384, 1]⟩
abbrev S384x32x4096 : Shape := ⟨3, ![384, 32, 4096]⟩
abbrev S384x1x4096 : Shape := ⟨3, ![384, 1, 4096]⟩

abbrev nBuf : Space → Nat
  | .hbm => 9
  | .vmem => 6
  | .smem => 0
  | _ => 0

abbrev bufTy : (tb : Table) → Fin (tcTables nBuf tb) → BufTy
  | .hbm, ⟨0, _⟩ => ⟨S6x1024x12288, .fp8e4m3⟩
  | .hbm, ⟨1, _⟩ => ⟨S6x1024x384, .i8⟩
  | .hbm, ⟨2, _⟩ => ⟨S12288x4096, .fp8e4m3⟩
  | .hbm, ⟨3, _⟩ => ⟨S384x4096, .i8⟩
  | .hbm, ⟨4, _⟩ => ⟨S6x1024x4096, .bf16⟩
  | .hbm, ⟨5, _⟩ => ⟨S6144x12288, .fp8e4m3⟩
  | .hbm, ⟨6, _⟩ => ⟨S6144x384, .i8⟩
  | .hbm, ⟨7, _⟩ => ⟨S6144x4096, .bf16⟩
  | .hbm, ⟨8, _⟩ => ⟨S6144x4096, .bf16⟩
  | .local _ .vmem, ⟨0, _⟩ => ⟨S6144x12288, .fp8e4m3⟩
  | .local _ .vmem, ⟨1, _⟩ => ⟨S6144x384, .i8⟩
  | .local _ .vmem, ⟨2, _⟩ => ⟨S12288x4096, .fp8e4m3⟩
  | .local _ .vmem, ⟨3, _⟩ => ⟨S384x4096, .i8⟩
  | .local _ .vmem, ⟨4, _⟩ => ⟨S6144x4096, .bf16⟩
  | .local _ .vmem, ⟨5, _⟩ => ⟨S6144x4096, .bf16⟩
  | _, _ => ⟨S6x1024x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6144x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x384 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S384x4096 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Rope.lean ====
abbrev S6x1024 : Shape := ⟨2, ![6, 1024]⟩
abbrev S128 : Shape := ⟨1, ![128]⟩
abbrev S1x128 : Shape := ⟨2, ![1, 128]⟩
abbrev S6144x1 : Shape := ⟨2, ![6144, 1]⟩
abbrev S6144x128 : Shape := ⟨2, ![6144, 128]⟩
abbrev S1024x1 : Shape := ⟨2, ![1024, 1]⟩
abbrev S1024x128 : Shape := ⟨2, ![1024, 128]⟩

abbrev nBuf : Space → Nat
  | .hbm => 6
  | .vmem => 7
  | .smem => 0
  | _ => 0

abbrev bufTy : (tb : Table) → Fin (tcTables nBuf tb) → BufTy
  | .hbm, ⟨0, _⟩ => ⟨S6x1024, .i32⟩
  | .hbm, ⟨1, _⟩ => ⟨S128, .f32⟩
  | .hbm, ⟨2, _⟩ => ⟨S1x128, .f32⟩
  | .hbm, ⟨3, _⟩ => ⟨S6144x1, .i32⟩
  | .hbm, ⟨4, _⟩ => ⟨S6144x128, .f32⟩
  | .hbm, ⟨5, _⟩ => ⟨S6144x128, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S6x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeRefIdeal.lean ====
abbrev S6x1024 : Shape := ⟨2, ![6, 1024]⟩
abbrev S64 : Shape := ⟨1, ![64]⟩
abbrev S6x1024x1 : Shape := ⟨3, ![6, 1024, 1]⟩
abbrev S1x1x64 : Shape := ⟨3, ![1, 1, 64]⟩
abbrev S6x1024x64 : Shape := ⟨3, ![6, 1024, 64]⟩
abbrev S6x1024x128 : Shape := ⟨3, ![6, 1024, 128]⟩
abbrev S6144x128 : Shape := ⟨2, ![6144, 128]⟩

abbrev nBuf : Space → Nat
  | .hbm => 15
  | .vmem => 0
  | .smem => 0
  | _ => 0

abbrev bufTy : (tb : Table) → Fin (tcTables nBuf tb) → BufTy
  | .hbm, ⟨0, _⟩ => ⟨S6x1024, .i32⟩
  | .hbm, ⟨1, _⟩ => ⟨S64, .f32⟩
  | .hbm, ⟨2, _⟩ => ⟨S6x1024, .f32⟩
  | .hbm, ⟨3, _⟩ => ⟨S6x1024x1, .f32⟩
  | .hbm, ⟨4, _⟩ => ⟨S1x1x64, .f32⟩
  | .hbm, ⟨5, _⟩ => ⟨S6x1024x64, .f32⟩
  | .hbm, ⟨6, _⟩ => ⟨S6x1024x64, .f32⟩
  | .hbm, ⟨7, _⟩ => ⟨S6x1024x64, .f32⟩
  | .hbm, ⟨8, _⟩ => ⟨S6x1024x64, .f32⟩
  | .hbm, ⟨9, _⟩ => ⟨S6x1024x64, .f32⟩
  | .hbm, ⟨10, _⟩ => ⟨S6x1024x128, .f32⟩
  | .hbm, ⟨11, _⟩ => ⟨S6144x128, .f32⟩
  | .hbm, ⟨12, _⟩ => ⟨S6x1024x64, .f32⟩
  | .hbm, ⟨13, _⟩ => ⟨S6x1024x128, .f32⟩
  | .hbm, ⟨14, _⟩ => ⟨S6144x128, .f32⟩
  | _, _ => ⟨S6x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Qkv.lean ====
abbrev S6x1024x4096 : Shape := ⟨3, ![6, 1024, 4096]⟩
abbrev S4096x6144 : Shape := ⟨2, ![4096, 6144]⟩
abbrev S128x6144 : Shape := ⟨2, ![128, 6144]⟩
abbrev S6x1024 : Shape := ⟨2, ![6, 1024]⟩
abbrev S128 : Shape := ⟨1, ![128]⟩
abbrev S1x128 : Shape := ⟨2, ![1, 128]⟩
abbrev S6144x1 : Shape := ⟨2, ![6144, 1]⟩
abbrev S6144x128 : Shape := ⟨2, ![6144, 128]⟩
abbrev S_ : Shape := ⟨0, ![]⟩
abbrev S6144x4096 : Shape := ⟨2, ![6144, 4096]⟩
abbrev S6144x6144 : Shape := ⟨2, ![6144, 6144]⟩
abbrev S512x4096 : Shape := ⟨2, ![512, 4096]⟩
abbrev S4096x512 : Shape := ⟨2, ![4096, 512]⟩
abbrev S128x512 : Shape := ⟨2, ![128, 512]⟩
abbrev S512x128 : Shape := ⟨2, ![512, 128]⟩
abbrev S512x512 : Shape := ⟨2, ![512, 512]⟩
abbrev S128x1x512 : Shape := ⟨3, ![128, 1, 512]⟩
abbrev S128x8x512 : Shape := ⟨3, ![128, 8, 512]⟩
abbrev S1024x512 : Shape := ⟨2, ![1024, 512]⟩
abbrev S2048x512 : Shape := ⟨2, ![2048, 512]⟩
abbrev S128x1x16x512 : Shape := ⟨4, ![128, 1, 16, 512]⟩
abbrev S128x2x16x512 : Shape := ⟨4, ![128, 2, 16, 512]⟩

abbrev nBuf : Space → Nat
  | .hbm => 22
  | .vmem => 13
  | .smem => 0
  | _ => 0

abbrev bufTy : (tb : Table) → Fin (tcTables nBuf tb) → BufTy
  | .hbm, ⟨0, _⟩ => ⟨S6x1024x4096, .bf16⟩
  | .hbm, ⟨1, _⟩ => ⟨S4096x6144, .fp8e4m3⟩
  | .hbm, ⟨2, _⟩ => ⟨S128x6144, .i8⟩
  | .hbm, ⟨3, _⟩ => ⟨S6x1024, .i32⟩
  | .hbm, ⟨4, _⟩ => ⟨S128, .f32⟩
  | .hbm, ⟨5, _⟩ => ⟨S1x128, .f32⟩
  | .hbm, ⟨6, _⟩ => ⟨S6144x1, .i32⟩
  | .hbm, ⟨7, _⟩ => ⟨S6144x1, .f32⟩
  | .hbm, ⟨8, _⟩ => ⟨S6144x128, .f32⟩
  | .hbm, ⟨9, _⟩ => ⟨S6144x128, .f32⟩
  | .hbm, ⟨10, _⟩ => ⟨S6144x128, .f32⟩
  | .hbm, ⟨11, _⟩ => ⟨S6144x128, .i32⟩
  | .hbm, ⟨12, _⟩ => ⟨S6144x128, .f32⟩
  | .hbm, ⟨13, _⟩ => ⟨S_, .i32⟩
  | .hbm, ⟨14, _⟩ => ⟨S6144x128, .i32⟩
  | .hbm, ⟨15, _⟩ => ⟨S6144x128, .i1⟩
  | .hbm, ⟨16, _⟩ => ⟨S6144x128, .f32⟩
  | .hbm, ⟨17, _⟩ => ⟨S6144x128, .f32⟩
  | .hbm, ⟨18, _⟩ => ⟨S6144x128, .f32⟩
  | .hbm, ⟨19, _⟩ => ⟨S6144x128, .f32⟩
  | .hbm, ⟨20, _⟩ => ⟨S6144x4096, .bf16⟩
  | .hbm, ⟨21, _⟩ => ⟨S6144x6144, .bf16⟩
  | .local _ .vmem, ⟨0, _⟩ => ⟨S512x4096, .bf16⟩
  | .local _ .vmem, ⟨1, _⟩ => ⟨S512x4096, .bf16⟩
  | .local _ .vmem, ⟨2, _⟩ => ⟨S4096x512, .fp8e4m3⟩
  | .local _ .vmem, ⟨3, _⟩ => ⟨S4096x512, .fp8e4m3⟩
  | .local _ .vmem, ⟨4, _⟩ => ⟨S128x512, .i8⟩
  | .local _ .vmem, ⟨5, _⟩ => ⟨S128x512, .i8⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x512, .bf16⟩
  | .local _ .vmem, ⟨11, _⟩ => ⟨S512x512, .bf16⟩
  | .local _ .vmem, ⟨12, _⟩ => ⟨S512x4096, .bf16⟩
  | _, _ => ⟨S6x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![12, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QkvRefIdeal.lean ====
abbrev S6x1024x4096 : Shape := ⟨3, ![6, 1024, 4096]⟩
abbrev S4096x6144 : Shape := ⟨2, ![4096, 6144]⟩
abbrev S128x6144 : Shape := ⟨2, ![128, 6144]⟩
abbrev S6x1024 : Shape := ⟨2, ![6, 1024]⟩
abbrev S64 : Shape := ⟨1, ![64]⟩
abbrev S6144 : Shape := ⟨1, ![6144]⟩
abbrev S6144x1 : Shape := ⟨2, ![6144, 1]⟩
abbrev S1x64 : Shape := ⟨2, ![1, 64]⟩
abbrev S6144x64 : Shape := ⟨2, ![6144, 64]⟩
abbrev S6144x4096 : Shape := ⟨2, ![6144, 4096]⟩
abbrev S6144x6144 : Shape := ⟨2, ![6144, 6144]⟩
abbrev S128x32x6144 : Shape := ⟨3, ![128, 32, 6144]⟩
abbrev S128x1x6144 : Shape := ⟨3, ![128, 1, 6144]⟩
abbrev S6144x5120 : Shape := ⟨2, ![6144, 5120]⟩
abbrev S6144x40x128 : Shape := ⟨3, ![6144, 40, 128]⟩
abbrev S6144x1024 : Shape := ⟨2, ![6144, 1024]⟩
abbrev S6144x1x64 : Shape := ⟨3, ![6144, 1, 64]⟩
abbrev S6144x40x64 : Shape := ⟨3, ![6144, 40, 64]⟩

abbrev nBuf : Space → Nat
  | .hbm => 16
  | .vmem => 6
  | .smem => 0
  | _ => 0

abbrev bufTy : (tb : Table) → Fin (tcTables nBuf tb) → BufTy
  | .hbm, ⟨0, _⟩ => ⟨S6x1024x4096, .bf16⟩
  | .hbm, ⟨1, _⟩ => ⟨S4096x6144, .fp8e4m3⟩
  | .hbm, ⟨2, _⟩ => ⟨S128x6144, .i8⟩
  | .hbm, ⟨3, _⟩ => ⟨S6x1024, .i32⟩
  | .hbm, ⟨4, _⟩ => ⟨S64, .f32⟩
  | .hbm, ⟨5, _⟩ => ⟨S6144, .i32⟩
  | .hbm, ⟨6, _⟩ => ⟨S6144, .f32⟩
  | .hbm, ⟨7, _⟩ => ⟨S6144x1, .f32⟩
  | .hbm, ⟨8, _⟩ => ⟨S1x64, .f32⟩
  | .hbm, ⟨9, _⟩ => ⟨S6144x64, .f32⟩
  | .hbm, ⟨10, _⟩ => ⟨S6144x64, .f32⟩
  | .hbm, ⟨11, _⟩ => ⟨S6144x64, .f32⟩
  | .hbm, ⟨12, _⟩ => ⟨S6144x4096, .bf16⟩
  | .hbm, ⟨13, _⟩ => ⟨S6144x64, .f32⟩
  | .hbm, ⟨14, _⟩ => ⟨S6144x64, .f32⟩
  | .hbm, ⟨15, _⟩ => ⟨S6144x6144, .bf16⟩
  | .local _ .vmem, ⟨0, _⟩ => ⟨S6144x4096, .bf16⟩
  | .local _ .vmem, ⟨1, _⟩ => ⟨S4096x6144, .fp8e4m3⟩
  | .local _ .vmem, ⟨2, _⟩ => ⟨S128x6144, .i8⟩
  | .local _ .vmem, ⟨3, _⟩ => ⟨S6144x64, .f32⟩
  | .local _ .vmem, ⟨4, _⟩ => ⟨S6144x64, .f32⟩
  | .local _ .vmem, ⟨5, _⟩ => ⟨S6144x6144, .bf16⟩
  | _, _ => ⟨S6x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6144x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x6144 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x6144 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Bits.lean ====
/-
  Facts about bits that the value proof uses: a reinterpreted matrix read at one bit, and what the bits of an e8m0 scale
  are worth as a bf16 number.
-/
module

public import Idealize.ShloMosaic.Lib.BitcastFour
public import Idealize.ShloMosaic.PureOps.Ideal.Laws

@[expose] public section

noncomputable section

namespace Cert.MxDown

open Idealize.ShloMosaic Idealize.ShloMosaic.ValueIdx

/-- A reinterpreted matrix at a bit: bit `q` of the element at row `a` is a bit of the source row that holds it. -/
theorem bitcast_bit {R r n v w : Nat} (x : (⟨2, ![R, n]⟩ : Shape).Idx → BitVec v)
    (h : (⟨2, ![R, n]⟩ : Shape).Bitcasts v ⟨2, ![r, n]⟩ w) (a : Fin r) (l : Fin n) (q : Nat) (hq : q < w) (hv : 0 < v)
    (p : Fin R) (hp : p.val = (a.val * w + q) / v) :
    (bitcast ⟨2, ![r, n]⟩ w x h (ix2 a l)).getLsbD q = (x (ix2 p l)).getLsbD ((a.val * w + q) % v) := by
  rw [bitcast_getLsbD x h _ q hq hv]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- The bits of an e8m0 code moved to where a bf16 number has its exponent are worth two to the code less 127. -/
theorem scale_decode (c : BitVec 8) (h1 : 1 ≤ c.toNat) (h2 : c.toNat ≤ 254) :
    Ideal.ofBits .bf16 (c.setWidth 16 <<< (7 : Nat)) = Ideal.exp2 ((((c.setWidth 32 - 127#32).toInt : ℝ)) : EReal) := by
  have hex : ((c.setWidth 16 <<< (7 : Nat)).extractLsb' 7 8) = c := by revert c; decide
  have hneg : ((c.setWidth 16 <<< (7 : Nat)).extractLsb' 15 1) = 0#1 := by revert c; decide
  have hfr : ((c.setWidth 16 <<< (7 : Nat)).extractLsb' 0 7) = 0#7 := by revert c; decide
  have hint : (c.setWidth 32 - 127#32).toInt = (c.toNat : Int) - 127 := by revert c; decide
  rw [hint]
  show Ideal.ieee 8 7 _ = _
  unfold Ideal.ieee
  rw [hex]
  simp only [Nat.reduceAdd]
  rw [hneg, hfr]
  rw [if_neg (by norm_num; omega), if_neg (by omega)]
  show _ = ((Real.rpow 2 (((c.toNat : Int) - 127 : Int) : ℝ) : ℝ) : EReal)
  congr 1
  show _ = (2:ℝ) ^ (((c.toNat : Int) - 127 : Int) : ℝ)
  rw [Real.rpow_intCast]
  have : ((c.toNat : Int) - (2 ^ (8 - 1) - 1) - (7 : Nat)) = ((c.toNat : Int) - 127) - 7 := by norm_num
  simp only [this]
  rw [zpow_sub₀ (by norm_num)]
  norm_num; ring
end Cert.MxDown

end
-- ==== Proof.ActTile.lean ====
/-
  One 32 by 128 tile of the dequantised left operand: each code times the scale of its group.
-/
module

public import proofs.«01_k».proof.Proof.Gen.DownIdeal.Skeleton
public import proofs.«01_k».proof.Proof.Bits
public import Idealize.ShloMosaic.Lib.Pipeline.Value
public import Idealize.ShloMosaic.Lib.ValueLayout

@[expose] public section

noncomputable section

namespace Cert.MxDown

open Idealize.ShloMosaic Idealize.ShloMosaic.ValueIdx Cert.DownIdeal Cert.DownIdeal.Gen

/-- Lanes moved while the bytes are held four to a word: each byte comes from its own row, at the lane that was named. -/
theorem gather_bytes (x : IVec S32x128 8) (idx : IVec S8x128 32) (h : S32x128.Bitcasts 8 S8x128 32)
    (h' : S8x128.Bitcasts 32 S32x128 8) (r : Fin 32) (l g : Fin 128) (hg : ∀ a : Fin 8, (idx (ix2 a l)).toNat = g.val) :
    bitcast S32x128 8 (dynamicGather 1 (bitcast S8x128 32 x h) idx) h' (ix2 r l) = x (ix2 r g) := by
  apply BitVec.eq_of_getLsbD_eq
  intro i hi
  rw [bitcast_bit (R := 8) (r := 32) (n := 128) _ h' r l i hi (by decide) ⟨r.val / 4, by omega⟩ (by show r.val / 4 = _; omega)]
  have e : dynamicGather 1 (bitcast S8x128 32 x h) idx (ix2 ⟨r.val / 4, by omega⟩ l)
      = bitcast S8x128 32 x h (ix2 ⟨r.val / 4, by omega⟩ g) := by
    unfold dynamicGather
    congr 1
    funext b
    match b with
    | ⟨0, _⟩ => rfl
    | ⟨1, _⟩ =>
      apply Fin.ext
      show (idx (ix2 ⟨r.val / 4, _⟩ l)).toNat % 128 = g.val
      rw [hg]; omega
  rw [e, bitcast_bit (R := 32) (r := 8) (n := 128) x h _ g _ (by omega) (by decide) r (by show r.val = _; dsimp only; omega)]
  congr 1
  dsimp only
  omega

/-- A shift of two half words held in one word is the shift of each, when the bits pushed out of the lower half are zero. -/
theorem shift_halves (x : IVec S32x128 8) (h : S32x128.Bitcasts 16 S16x128 32) (h' : S16x128.Bitcasts 32 S32x128 16) (h8 : 8 < 16)
    (j : S32x128.Idx) :
    bitcast S32x128 16 (shli (bitcast S16x128 32 (extui 16 x h8) h) (broadcast S16x128 7#32)) h' j
      = (x j).setWidth 16 <<< (7 : Nat) := by
  obtain ⟨r, l, rfl⟩ : ∃ (r : Fin 32) (l : Fin 128), j = ix2 r l := ⟨j 0, j 1, eq_ix2 j⟩
  apply BitVec.eq_of_getLsbD_eq
  intro i hi
  rw [bitcast_bit (R := 16) (r := 32) (n := 128) _ h' r l i hi (by decide) ⟨r.val / 2, by omega⟩ (by show r.val / 2 = _; omega)]
  show (bitcast S16x128 32 (extui 16 x h8) h (ix2 ⟨r.val / 2, by omega⟩ l) <<< (7#32)).getLsbD _ = _
  rw [BitVec.shiftLeft_eq', BitVec.getLsbD_shiftLeft, BitVec.getLsbD_shiftLeft]
  simp only [BitVec.reduceToNat]
  by_cases h7 : i < 7
  · rcases Nat.mod_two_eq_zero_or_one r.val with hm | hm
    · simp [h7, show (r.val * 16 + i) % 32 < 7 by omega]
    · rw [bitcast_bit (R := 32) (r := 16) (n := 128) _ h _ l _ (by omega) (by decide) ⟨r.val - 1, by omega⟩
        (by show r.val - 1 = (r.val / 2 * 32 + _) / 16; omega)]
      show (_ && ((x (ix2 ⟨r.val - 1, _⟩ l)).setWidth 16).getLsbD ((r.val / 2 * 32 + _) % 16)) = _
      rw [BitVec.getLsbD_setWidth, BitVec.getLsbD_of_ge (x _) _ (by omega)]
      simp [h7]
  · rw [bitcast_bit (R := 32) (r := 16) (n := 128) _ h _ l _ (by omega) (by decide) r
        (by show r.val = (r.val / 2 * 32 + _) / 16; omega)]
    show (_ && ((x (ix2 r l)).setWidth 16).getLsbD ((r.val / 2 * 32 + _) % 16)) = _
    rw [show (r.val / 2 * 32 + ((r.val * 16 + i) % 32 - 7)) % 16 = i - 7 by omega]
    simp [h7, hi, show ¬ (r.val * 16 + i) % 32 < 7 by omega, show (r.val * 16 + i) % 32 < 32 by omega]

/-- One 32 by 128 tile of the left operand, as the kernel computes it: the codes, times the scales of the tile's rows at the
    groups from `b` on. -/
def actTile (b : BitVec 32) (xs : Vec Ideal S1x32x128 .i8) (xh : Vec Ideal S32x128 .fp8e4m3) : FVec Ideal S32x128 .bf16 :=
  k0_pay753 (k0_pay748 xh) b (k0_pay749 (F := Ideal) xs) k0_pay750 k0_pay751 k0_pay752

theorem lane_group (l : Fin 128) :
    Scalar.select (IntOp.andi (k0_pay751 (ix2 (0 : Fin 8) l)) (IntOp.cmpi .ne (k0_pay752 (ix2 (0 : Fin 8) l)) 0#32))
      (k0_pay750 (ix2 (0 : Fin 8) l) - 1#32) (k0_pay750 (ix2 (0 : Fin 8) l)) = BitVec.ofNat 32 (l.val / 32) := by
  revert l; decide

/-- The scale's lane that each lane of a tile reads: the tile's first group plus one group per 32 lanes. -/
def laneIdx (b : BitVec 32) : IVec S8x128 32 :=
  let d := select (andi k0_pay751 (cmpi .ne k0_pay752 (broadcast S8x128 0#32))) (subi k0_pay750 (broadcast S8x128 1#32)) k0_pay750
  let e := addi d (broadcast S8x128 b)
  select (cmpi .slt e (broadcast S8x128 0#32)) (addi e (broadcast S8x128 128#32)) e

theorem laneIdx_toNat (b : BitVec 32) (hb : b.toNat ≤ 124) (a : Fin 8) (l : Fin 128) :
    (laneIdx b (ix2 a l)).toNat = b.toNat + l.val / 32 := by
  have hl : (Scalar.select (IntOp.andi (k0_pay751 (ix2 a l)) (IntOp.cmpi .ne (k0_pay752 (ix2 a l)) 0#32))
    (k0_pay750 (ix2 a l) - 1#32) (k0_pay750 (ix2 a l))) = BitVec.ofNat 32 (l.val / 32) := lane_group l
  have hs : (BitVec.ofNat 32 (l.val / 32) + b).toNat = b.toNat + l.val / 32 := by
    rw [BitVec.toNat_add, BitVec.toNat_ofNat]; omega
  have hc : IntOp.cmpi .slt (BitVec.ofNat 32 (l.val / 32) + b) 0#32 = 0#1 := by
    have : ¬ (BitVec.ofNat 32 (l.val / 32) + b).slt 0#32 := by
      rw [BitVec.slt_iff_toInt_lt, BitVec.toInt_eq_toNat_of_lt (by omega)]; simp; omega
    simp [IntOp.cmpi, this]
  have he : laneIdx b (ix2 a l) = Scalar.select (IntOp.cmpi .slt (BitVec.ofNat 32 (l.val / 32) + b) 0#32)
      (BitVec.ofNat 32 (l.val / 32) + b + 128#32) (BitVec.ofNat 32 (l.val / 32) + b) := by rw [← hl]; rfl
  rw [he, hc]
  exact hs

theorem actTile_apply (b : BitVec 32) (hb : b.toNat ≤ 124) (xs : Vec Ideal S1x32x128 .i8) (xh : Vec Ideal S32x128 .fp8e4m3)
    (r : Fin 32) (l g : Fin 128) (hg : g.val = b.toNat + l.val / 32) :
    actTile b xs xh (ix2 r l)
      = (xh (ix2 r l) * Ideal.ofBits .bf16 ((xs (ix3 (0 : Fin 1) r g)).setWidth 16 <<< (7 : Nat)) : EReal) := by
  have e : actTile b xs xh = fun j => (xh j * Ideal.ofBits .bf16 (bitcast S32x128 16 (shli (bitcast S16x128 32 (extui 16
      (bitcast S32x128 8 (dynamicGather 1 (bitcast S8x128 32 (shapeCast S32x128 xs shapeCasts_S1x32x128_S32x128)
        bitcasts_S32x128_w8_S8x128_w32) (laneIdx b)) bitcasts_S8x128_w32_S32x128_w8) natLt_8_16)
      bitcasts_S32x128_w16_S16x128_w32) (broadcast S16x128 7#32)) bitcasts_S16x128_w32_S32x128_w16 j) : EReal) := by
    unfold actTile k0_pay753 k0_pay748 k0_pay749
    simp only [shapeCast_self, shapeCast_shapeCast]
    rfl
  rw [e]
  dsimp only
  rw [shift_halves, gather_bytes _ _ _ _ r l g (fun a => by rw [laneIdx_toNat b hb, hg]),
    shapeCast_1ab_ab_apply]

end Cert.MxDown

end
-- ==== Proof.WeightTile.lean ====
/-
  One block of the dequantised weight: each code times the scale of its group of 32 rows.
-/
module

public import proofs.«01_k».proof.Proof.Gen.DownIdeal.Skeleton
public import proofs.«01_k».proof.Proof.Bits
public import Idealize.ShloMosaic.Lib.Pipeline.Value

@[expose] public section

noncomputable section

namespace Cert.MxDown

open Idealize.ShloMosaic Idealize.ShloMosaic.ValueIdx Cert.DownIdeal Cert.DownIdeal.Gen

/-- A scale's bits written into both halves of a word: each half is the scale's bits. -/
theorem half_of_word (c : BitVec 8) (m : Fin 2) :
    ((c.setWidth 32 <<< (7 : Nat)) ||| ((c.setWidth 32 <<< (7 : Nat)) <<< (16 : Nat))).extractLsb' (16 * m.val) 16
      = c.setWidth 16 <<< (7 : Nat) := by
  revert c m; decide

theorem word_halves (ws : S32x1024.Idx → BitVec 8) (h : S256x1024.Bitcasts 32 S512x1024 16) (g : Fin 32) (q : Fin 16) (c : Fin 1024) :
    bitcast S512x1024 16 (shapeCast S256x1024 (broadcastTo S32x8x1024 (shapeCast S32x1x1024
      (ori (shli (extui 32 ws natLt_8_32) (broadcast S32x1024 7#32))
        (shli (shli (extui 32 ws natLt_8_32) (broadcast S32x1024 7#32)) (broadcast S32x1024 16#32)))
      shapeCasts_S32x1024_S32x1x1024) broadcasts_S32x1x1024_S32x8x1024) shapeCasts_S32x8x1024_S256x1024) h
      (ix2 (⟨16 * g.val + q.val, by omega⟩ : Fin 512) c) = (ws (ix2 g c)).setWidth 16 <<< (7 : Nat) := by
  rw [← half_of_word (ws (ix2 g c)) ⟨q.val % 2, by omega⟩]
  apply BitVec.eq_of_getLsbD_eq
  intro i hi
  rw [bitcast_bit (R := 256) (r := 512) (n := 1024) _ h _ c i hi (by decide) ⟨8 * g.val + q.val / 2, by omega⟩
    (by show 8 * g.val + q.val / 2 = ((16 * g.val + q.val) * 16 + i) / 32; omega),
    shapeCast_apply _ _ _ (ix3 g (⟨q.val / 2, by omega⟩ : Fin 8) c) (by
      rw [Shape.rowMajor_val_two, Shape.rowMajor_val_three]
      show (g.val * 8 + q.val / 2) * 1024 + c.val = (8 * g.val + q.val / 2) * 1024 + c.val
      omega),
    broadcastTo_apply _ _ _ (ix3 g (0 : Fin 1) c) (by
      intro a
      match a with
      | ⟨0, _⟩ => rfl
      | ⟨1, _⟩ => rfl
      | ⟨2, _⟩ => rfl),
    shapeCast_apply _ _ _ (ix2 g c) (by
      rw [Shape.rowMajor_val_two, Shape.rowMajor_val_three]
      show g.val * 1024 + c.val = (g.val * 1 + 0) * 1024 + c.val
      omega),
    BitVec.getLsbD_extractLsb']
  simp only [hi, decide_true, Bool.true_and]
  show (((ws (ix2 g c)).setWidth 32 <<< (7 : Nat)) ||| (((ws (ix2 g c)).setWidth 32 <<< (7 : Nat)) <<< (16 : Nat))).getLsbD _ = _
  congr 1
  omega

theorem weightTile_apply (w : Vec Ideal S1024x1024 .fp8e4m3) (ws : Vec Ideal S32x1024 .i8) (r c : Fin 1024) (g : Fin 32)
    (hg : g.val = r.val / 32) :
    k0_pay1170 w ws (ix2 r c) = (w (ix2 r c) * Ideal.ofBits .bf16 ((ws (ix2 g c)).setWidth 16 <<< (7 : Nat)) : EReal) := by
  unfold k0_pay1170
  simp only [shapeCast_self]
  rw [shapeCast_apply _ _ (ix2 r c) (ix4 g (⟨r.val % 32 / 16, by omega⟩ : Fin 2) (⟨r.val % 16, by omega⟩ : Fin 16) c) (by
      rw [Shape.rowMajor_val_two, Shape.rowMajor_val_four]
      show ((g.val * 2 + r.val % 32 / 16) * 16 + r.val % 16) * 1024 + c.val = r.val * 1024 + c.val
      omega)]
  show ((shapeCast S32x2x16x1024 _ _ _ * broadcastTo S32x2x16x1024 _ _ _ : EReal)) = _
  rw [shapeCast_apply _ shapeCasts_S1024x1024_S32x2x16x1024 _ (ix2 r c) (by
      rw [Shape.rowMajor_val_two, Shape.rowMajor_val_four]
      show r.val * 1024 + c.val = ((g.val * 2 + r.val % 32 / 16) * 16 + r.val % 16) * 1024 + c.val
      omega),
    broadcastTo_apply _ _ _ (ix4 g (0 : Fin 1) (⟨r.val % 16, by omega⟩ : Fin 16) c) (by
      intro a
      match a with
      | ⟨0, _⟩ => rfl
      | ⟨1, _⟩ => rfl
      | ⟨2, _⟩ => rfl
      | ⟨3, _⟩ => rfl),
    shapeCast_apply _ _ _ (ix2 (⟨16 * g.val + r.val % 16, by omega⟩ : Fin 512) c) (by
      rw [Shape.rowMajor_val_two, Shape.rowMajor_val_four]
      show (16 * g.val + r.val % 16) * 1024 + c.val = ((g.val * 1 + 0) * 16 + r.val % 16) * 1024 + c.val
      omega)]
  show (_ * Ideal.ofBits .bf16 (bitcast S512x1024 16 _ _ _) : EReal) = _
  rw [word_halves ws _ g ⟨r.val % 16, by omega⟩ c]
  rfl
end Cert.MxDown

end
-- ==== Proof.Block.lean ====
/-
  What one grid point computes: the two dequantised blocks and their product, and why the tiles that the kernel stores
  one by one are the dequantised block of the left operand.
-/
module

public import proofs.«01_k».proof.Proof.Gen.DownIdeal.Skeleton
public import Idealize.ShloMosaic.Lib.Pipeline.Value
public import Idealize.ShloMosaic.Lib.Ring
public import proofs.«01_k».proof.Proof.ActTile
public import proofs.«01_k».proof.Proof.WeightTile

@[expose] public section

noncomputable section
namespace Cert.MxDown
open Idealize.ShloMosaic Idealize.ShloMosaic.ValueIdx Cert.DownIdeal Cert.DownIdeal.Gen Idealize.SL.Sem

theorem hz : (![0, 0] : Fin 2 → Nat) = fun _ => 0 := funext fun a => by fin_cases a <;> rfl

/-- The scale of a code, from its bits. -/
abbrev scaleOf (c : BitVec 8) : EReal := Ideal.ofBits .bf16 (c.setWidth 16 <<< (7 : Nat))

/-- The dequantised block of the left operand: each code times the scale of its group of 32 columns. -/
def actBlock (x0 : Vec Ideal S1024x1024 .fp8e4m3) (x1 : Vec Ideal S1x1024x128 .i8) : Vec Ideal S1024x1024 .bf16 := fun j =>
  (x0 j * scaleOf (x1 (ix3 (0 : Fin 1) (j 0) (⟨(j 1).val / 32, by have := idx2_lt1 j; omega⟩ : Fin 128))) : EReal)

/-- The dequantised block of the weight: each code times the scale of its group of 32 rows. -/
def weightBlock (x2 : Vec Ideal S1024x1024 .fp8e4m3) (x3 : Vec Ideal S32x1024 .i8) : Vec Ideal S1024x1024 .bf16 := fun j =>
  (x2 j * scaleOf (x3 (ix2 (⟨(j 0).val / 32, by have := idx2_lt0 j; omega⟩ : Fin 32) (j 1))) : EReal)

/-- The block product one grid point adds. -/
def stepBlock (x0 : Vec Ideal S1024x1024 .fp8e4m3) (x1 : Vec Ideal S1x1024x128 .i8) (x2 : Vec Ideal S1024x1024 .fp8e4m3)
    (x3 : Vec Ideal S32x1024 .i8) : S1024x1024.Idx → EReal := fun j =>
  ∑ k : Fin 1024, actBlock x0 x1 (ix2 (j 0) k) * weightBlock x2 x3 (ix2 k (j 1))

theorem weightBlock_eq (x2 : Vec Ideal S1024x1024 .fp8e4m3) (x3 : Vec Ideal S32x1024 .i8) :
    k0_pay1170 x2 x3 = weightBlock x2 x3 := by
  funext j
  obtain ⟨r, c, rfl⟩ : ∃ (r c : Fin 1024), j = ix2 r c := ⟨j 0, j 1, eq_ix2 j⟩
  rw [weightTile_apply x2 x3 r c ⟨r.val / 32, by omega⟩ rfl]
  rfl

theorem mul_zero32 (a : BitVec 32) (n : Nat) (hn : n < 128) :
    (Scalar.addi (Scalar.muli a 0#32) (BitVec.ofNat 32 n)).toNat = n := by
  show (a * 0#32 + BitVec.ofNat 32 n).toNat = n
  rw [BitVec.mul_zero, BitVec.zero_add, BitVec.toNat_ofNat]; omega

/-- A tile's 32 rows lie inside the block of scales when they lie inside the block of codes. -/
theorem rows_inb {rb cb : Nat} (inb : ∀ d, (![rb, cb] : Fin 2 → Nat) d + S32x128.size d ≤ S1024x1024.size d) :
    ∀ d, (![0, rb, 0] : Fin 3 → Nat) d + S1x32x128.size d ≤ S1x1024x128.size d := by
  intro d
  have h : rb + 32 ≤ 1024 := inb 0
  match d with
  | ⟨0, _⟩ => show 0 + 1 ≤ 1; omega
  | ⟨1, _⟩ => exact h
  | ⟨2, _⟩ => show 0 + 128 ≤ 128; omega

/-- A stored tile is the dequantised block's, at the tile's place. -/
theorem tile_ok {arg3 : Memref sig .tc .vmem S1024x1024 .fp8e4m3} {harg3 : arg3.IsWhole} {arg4 : Memref sig .tc .vmem S1x1024x128 .i8}
    {harg4 : arg4.IsWhole} {x0 : Vec Ideal S1024x1024 .fp8e4m3} {x1 : Vec Ideal S1x1024x128 .i8} {a : BitVec 32} {rb cb : Nat}
    {inb : ∀ d, (![rb, cb] : Fin 2 → Nat) d + S32x128.size d ≤ S1024x1024.size d}
    (hcb : cb / 32 * 32 = cb)
    {pay : FVec Ideal S32x128 .bf16}
    (hpay : pay = actTile (Scalar.addi (Scalar.muli a 0#32) (BitVec.ofNat 32 (cb / 32)))
      (View.readAt (Elt Ideal) arg4.view (Rect.unit (s := S1x1024x128) ![0, rb, 0] S1x32x128.size (rows_inb inb)).toLoadRect (harg4.unread x1))
      (View.readAt (Elt Ideal) arg3.view (Rect.unit (s := S1024x1024) ![rb, cb] S32x128.size inb).toLoadRect (harg3.unread x0))) :
    ∀ x, pay x = actBlock x0 x1 ((Rect.unit (s := S1024x1024) ![rb, cb] S32x128.size inb).emb x) := by
  intro x
  obtain ⟨r, l, rfl⟩ : ∃ (r : Fin 32) (l : Fin 128), x = ix2 r l := ⟨x 0, x 1, eq_ix2 x⟩
  have hc : cb + 128 ≤ 1024 := inb 1
  subst hpay
  rw [actTile_apply _ (by rw [mul_zero32 _ _ (by omega)]; omega) _ _ r l ⟨cb / 32 + l.val / 32, by omega⟩ (by rw [mul_zero32 _ _ (by omega)])]
  rw [View.readAt_eq_ld, View.readAt_eq_ld, harg3.read_unread, harg4.read_unread]
  show (x0 _ * scaleOf (x1 _) : EReal) = x0 _ * scaleOf (x1 _)
  congr 3
  funext d
  match d with
  | ⟨0, _⟩ => rfl
  | ⟨1, _⟩ => exact Fin.ext (show rb + 1 * r.val = rb + 1 * r.val from rfl)
  | ⟨2, _⟩ => exact Fin.ext (show 0 + 1 * (cb / 32 + l.val / 32) = (cb + 1 * l.val) / 32 by omega)

/-- The corner of tile `n` lies inside the block. -/
theorem tile_inb (n : Nat) : ∀ d, (![32 * (n / 8 % 32), 128 * (n % 8)] : Fin 2 → Nat) d + S32x128.size d ≤ S1024x1024.size d := by
  intro d
  match d with
  | ⟨0, _⟩ => show 32 * (n / 8 % 32) + 32 ≤ 1024; omega
  | ⟨1, _⟩ => show 128 * (n % 8) + 128 ≤ 1024; omega

/-- The first `n` tiles the kernel writes, the last one first: row by row, eight to a row. -/
def tiles {arg3 : Memref sig .tc .vmem S1024x1024 .fp8e4m3} (harg3 : arg3.IsWhole) {arg4 : Memref sig .tc .vmem S1x1024x128 .i8}
    (harg4 : arg4.IsWhole) (x0 : Vec Ideal S1024x1024 .fp8e4m3) (x1 : Vec Ideal S1x1024x128 .i8) (a : BitVec 32) :
    Nat → List (View.Piece (Elt Ideal) S1024x1024 .bf16)
  | 0 => []
  | n + 1 => ⟨Rect.unit (s := S1024x1024) ![32 * (n / 8 % 32), 128 * (n % 8)] S32x128.size (tile_inb n),
      actTile (Scalar.addi (Scalar.muli a 0#32) (BitVec.ofNat 32 (128 * (n % 8) / 32)))
        (View.readAt (Elt Ideal) arg4.view (Rect.unit (s := S1x1024x128) ![0, 32 * (n / 8 % 32), 0] S1x32x128.size (rows_inb (tile_inb n))).toLoadRect (harg4.unread x1))
        (View.readAt (Elt Ideal) arg3.view (Rect.unit (s := S1024x1024) ![32 * (n / 8 % 32), 128 * (n % 8)] S32x128.size (tile_inb n)).toLoadRect (harg3.unread x0))⟩
      :: tiles harg3 harg4 x0 x1 a n

/-- Each of these tiles is right. -/
theorem tiles_ok {arg3 : Memref sig .tc .vmem S1024x1024 .fp8e4m3} {harg3 : arg3.IsWhole} {arg4 : Memref sig .tc .vmem S1x1024x128 .i8}
    {harg4 : arg4.IsWhole} {x0 : Vec Ideal S1024x1024 .fp8e4m3} {x1 : Vec Ideal S1x1024x128 .i8} {a : BitVec 32} (n : Nat) :
    ∀ p ∈ tiles harg3 harg4 x0 x1 a n, ∀ x, p.2 x = actBlock x0 x1 (p.1.emb x) := by
  induction n with
  | zero => exact List.forall_mem_nil _
  | succ n ih => exact List.forall_mem_cons.2 ⟨tile_ok (by omega) rfl, ih⟩

/-- So a list that is the list of all 256 tiles is right. -/
theorem of_tiles {arg3 : Memref sig .tc .vmem S1024x1024 .fp8e4m3} {harg3 : arg3.IsWhole} {arg4 : Memref sig .tc .vmem S1x1024x128 .i8}
    {harg4 : arg4.IsWhole} {x0 : Vec Ideal S1024x1024 .fp8e4m3} {x1 : Vec Ideal S1x1024x128 .i8} (a : BitVec 32)
    {L : List (View.Piece (Elt Ideal) S1024x1024 .bf16)} (h : L = tiles harg3 harg4 x0 x1 a 256) :
    ∀ p ∈ L, ∀ x, p.2 x = actBlock x0 x1 (p.1.emb x) := h ▸ tiles_ok 256

/-- The product of the two dequantised blocks. -/
theorem pay1_apply (a w : Vec Ideal S1024x1024 .bf16) (j : S1024x1024.Idx) :
    k0_pay1 (F := Ideal) w a j = (∑ k : Fin 1024, a (ix2 (j 0) k) * w (ix2 k (j 1)) : EReal) := by
  unfold k0_pay1
  simp only [matmul]
  rw [Ideal.matmul_constant_zero_apply,
    ← Equiv.sum_comp (contrEquiv1 dot_S1024x1024_S1024x1024_S1024x1024_1_0_0_1_n_n 1024 rfl rfl).symm]
  refine Finset.sum_congr rfl fun k _ => ?_
  congr 1
  · congr 1; funext d; match d with | ⟨0, _⟩ => rfl | ⟨1, _⟩ => rfl
  · congr 1; funext d; match d with | ⟨0, _⟩ => rfl | ⟨1, _⟩ => rfl

theorem readAt_whole {e : EltTy} {d0 d1 : Nat} {arg : Memref sig .tc .vmem ⟨2, ![d0, d1]⟩ e} (h : arg.IsWhole) (x : Vec Ideal ⟨2, ![d0, d1]⟩ e)
    (inb : ∀ a, (![0, 0] : Fin 2 → Nat) a + (⟨2, ![d0, d1]⟩ : Shape).size a ≤ (⟨2, ![d0, d1]⟩ : Shape).size a) :
    View.readAt (Elt Ideal) arg.view (Rect.unit (s := ⟨2, ![d0, d1]⟩) ![0, 0] (⟨2, ![d0, d1]⟩ : Shape).size inb).toLoadRect (h.unread x) = x := by
  rw [View.readAt_eq_ld, h.read_unread, View.ld_unit_zero (S := ⟨2, ![d0, d1]⟩) hz]

/-- The left operand as the product loads it, when every stored tile agrees with the dequantised block. -/
theorem act_load {arg9 : Memref sig .tc .vmem S1024x1024 .bf16} {x0 : Vec Ideal S1024x1024 .fp8e4m3} {x1 : Vec Ideal S1x1024x128 .i8}
    (L : List (View.Piece (Elt Ideal) S1024x1024 .bf16)) (hc : View.Piece.tiledL L S32x128.size = true)
    (hL : ∀ p ∈ L, ∀ x : p.1.shape.Idx, p.2 x = actBlock x0 x1 (p.1.emb x))
    (inb : ∀ a, (![0, 0] : Fin 2 → Nat) a + S1024x1024.size a ≤ S1024x1024.size a) :
    arg9.view.readCov L (Rect.unit (s := S1024x1024) ![0, 0] S1024x1024.size inb).toLoadRect = actBlock x0 x1 := by
  have e : View.canon L = actBlock x0 x1 := funext fun y =>
    View.canon_apply_of_pieces (actBlock x0 x1) L hL y (View.cover_of_tiledL L S32x128.size hc y)
  rw [View.readCov_eq_canon', e]
  exact View.ld_unit_zero (S := S1024x1024) hz _ _

/-- What a grid point after the first of its run leaves in the accumulator. -/
theorem step_val {arg5 : Memref sig .tc .vmem S1024x1024 .fp8e4m3} (harg5 : arg5.IsWhole)
    {arg6 : Memref sig .tc .vmem S32x1024 .i8} (harg6 : arg6.IsWhole) {arg9 : Memref sig .tc .vmem S1024x1024 .bf16}
    {arg10 : Memref sig .tc .vmem S1024x1024 .f32} (harg10 : arg10.IsWhole)
    {x0 : Vec Ideal S1024x1024 .fp8e4m3} {x1 : Vec Ideal S1x1024x128 .i8} {x2 : Vec Ideal S1024x1024 .fp8e4m3}
    {x3 : Vec Ideal S32x1024 .i8} {xs1 : Vec Ideal S1024x1024 .f32}
    (L : List (View.Piece (Elt Ideal) S1024x1024 .bf16)) (hc : View.Piece.tiledL L S32x128.size = true)
    (hL : ∀ p ∈ L, ∀ x : p.1.shape.Idx, p.2 x = actBlock x0 x1 (p.1.emb x)) :
    k0_pay3 (F := Ideal) (k0_pay1170
        (View.readAt (Elt Ideal) arg5.view (Rect.unit (s := S1024x1024) ![0, 0] S1024x1024.size inb_S1024x1024_S1024x1024_0_0).toLoadRect (harg5.unread x2))
        (View.readAt (Elt Ideal) arg6.view (Rect.unit (s := S32x1024) ![0, 0] S32x1024.size inb_S32x1024_S32x1024_0_0).toLoadRect (harg6.unread x3)))
      (arg9.view.readCov L (Rect.unit (s := S1024x1024) ![0, 0] S1024x1024.size inb_S1024x1024_S1024x1024_0_0).toLoadRect)
      (View.readAt (Elt Ideal) arg10.view (Rect.unit (s := S1024x1024) ![0, 0] S1024x1024.size inb_S1024x1024_S1024x1024_0_0).toLoadRect (harg10.unread xs1))
      = fun j => (xs1 j + stepBlock x0 x1 x2 x3 j : EReal) := by
  rw [readAt_whole harg5, readAt_whole harg6, readAt_whole harg10, weightBlock_eq, act_load (x0 := x0) (x1 := x1) L hc hL]
  unfold k0_pay3
  dsimp only
  rw [shapeCast_self]
  funext j
  show (xs1 j + k0_pay1 (F := Ideal) _ _ j : EReal) = _
  rw [pay1_apply]
  rfl

/-- What the first grid point of a run leaves in the accumulator. -/
theorem first_val {arg5 : Memref sig .tc .vmem S1024x1024 .fp8e4m3} (harg5 : arg5.IsWhole)
    {arg6 : Memref sig .tc .vmem S32x1024 .i8} (harg6 : arg6.IsWhole) {arg9 : Memref sig .tc .vmem S1024x1024 .bf16}
    {x0 : Vec Ideal S1024x1024 .fp8e4m3} {x1 : Vec Ideal S1x1024x128 .i8} {x2 : Vec Ideal S1024x1024 .fp8e4m3}
    {x3 : Vec Ideal S32x1024 .i8}
    (L : List (View.Piece (Elt Ideal) S1024x1024 .bf16)) (hc : View.Piece.tiledL L S32x128.size = true)
    (hL : ∀ p ∈ L, ∀ x : p.1.shape.Idx, p.2 x = actBlock x0 x1 (p.1.emb x)) :
    k0_pay2 (F := Ideal) (k0_pay1170
        (View.readAt (Elt Ideal) arg5.view (Rect.unit (s := S1024x1024) ![0, 0] S1024x1024.size inb_S1024x1024_S1024x1024_0_0).toLoadRect (harg5.unread x2))
        (View.readAt (Elt Ideal) arg6.view (Rect.unit (s := S32x1024) ![0, 0] S32x1024.size inb_S32x1024_S32x1024_0_0).toLoadRect (harg6.unread x3)))
      (arg9.view.readCov L (Rect.unit (s := S1024x1024) ![0, 0] S1024x1024.size inb_S1024x1024_S1024x1024_0_0).toLoadRect)
      = stepBlock x0 x1 x2 x3 := by
  rw [readAt_whole harg5, readAt_whole harg6, weightBlock_eq, act_load (x0 := x0) (x1 := x1) L hc hL]
  unfold k0_pay2
  dsimp only
  rw [shapeCast_self]
  funext j
  rw [pay1_apply]
  rfl

/-- What the last grid point of a run stores: the residual plus the finished accumulator. -/
theorem last_val {arg5 : Memref sig .tc .vmem S1024x1024 .fp8e4m3} (harg5 : arg5.IsWhole)
    {arg6 : Memref sig .tc .vmem S32x1024 .i8} (harg6 : arg6.IsWhole) {arg7 : Memref sig .tc .vmem S1024x1024 .bf16} (harg7 : arg7.IsWhole)
    {arg9 : Memref sig .tc .vmem S1024x1024 .bf16} {arg10 : Memref sig .tc .vmem S1024x1024 .f32} (harg10 : arg10.IsWhole)
    {x0 : Vec Ideal S1024x1024 .fp8e4m3} {x1 : Vec Ideal S1x1024x128 .i8} {x2 : Vec Ideal S1024x1024 .fp8e4m3}
    {x3 : Vec Ideal S32x1024 .i8} {x4 : Vec Ideal S1024x1024 .bf16} {xs1 : Vec Ideal S1024x1024 .f32}
    (L : List (View.Piece (Elt Ideal) S1024x1024 .bf16)) (hc : View.Piece.tiledL L S32x128.size = true)
    (hL : ∀ p ∈ L, ∀ x : p.1.shape.Idx, p.2 x = actBlock x0 x1 (p.1.emb x)) :
    k0_pay4 (F := Ideal)
      (View.readAt (Elt Ideal) arg7.view (Rect.unit (s := S1024x1024) ![0, 0] S1024x1024.size inb_S1024x1024_S1024x1024_0_0).toLoadRect (harg7.unread x4))
      (arg10.view.readCov [⟨Rect.unit (s := S1024x1024) ![0, 0] S1024x1024.size inb_S1024x1024_S1024x1024_0_0, k0_pay3 (F := Ideal) (k0_pay1170
        (View.readAt (Elt Ideal) arg5.view (Rect.unit (s := S1024x1024) ![0, 0] S1024x1024.size inb_S1024x1024_S1024x1024_0_0).toLoadRect (harg5.unread x2))
        (View.readAt (Elt Ideal) arg6.view (Rect.unit (s := S32x1024) ![0, 0] S32x1024.size inb_S32x1024_S32x1024_0_0).toLoadRect (harg6.unread x3)))
      (arg9.view.readCov L (Rect.unit (s := S1024x1024) ![0, 0] S1024x1024.size inb_S1024x1024_S1024x1024_0_0).toLoadRect)
      (View.readAt (Elt Ideal) arg10.view (Rect.unit (s := S1024x1024) ![0, 0] S1024x1024.size inb_S1024x1024_S1024x1024_0_0).toLoadRect (harg10.unread xs1))⟩]
        (Rect.unit (s := S1024x1024) ![0, 0] S1024x1024.size inb_S1024x1024_S1024x1024_0_0).toLoadRect)
      = fun j => (x4 j + (xs1 j + stepBlock x0 x1 x2 x3 j) : EReal) := by
  rw [step_val harg5 harg6 harg10 L hc hL, readAt_whole harg7, View.readCov_unit_zero (S := S1024x1024) _ hz]
  unfold k0_pay4
  dsimp only
  rw [shapeCast_self]
  rfl

end Cert.MxDown

end
-- ==== Proof.CaseA.lean ====
/-
  The first grid point of a run: the accumulator is the block product.
-/
module

public import proofs.«01_k».proof.Proof.Gen.DownIdeal.Frame
public import proofs.«01_k».proof.Proof.Block

@[expose] public section

noncomputable section

namespace Cert.MxDown

open Idealize.ShloMosaic Idealize.ShloMosaic.ValueIdx Cert.DownIdeal Cert.DownIdeal.Gen Idealize.SL.Sem

/-- The accumulator after the first point of a run. -/
theorem sout_A (c : Dev nD) (i : grid0.Coords) (arg3 : Memref sig .tc .vmem S1024x1024 .fp8e4m3) (harg3 : arg3.IsWhole) (arg4 : Memref sig .tc .vmem S1x1024x128 .i8) (harg4 : arg4.IsWhole) (arg5 : Memref sig .tc .vmem S1024x1024 .fp8e4m3) (harg5 : arg5.IsWhole) (arg6 : Memref sig .tc .vmem S32x1024 .i8) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole)
    (hc0 : cond0_0 i) (hc1 : ¬cond0_1 i) (hc2 : ¬cond0_2 i)
    (x0 : Vec Ideal S1024x1024 .fp8e4m3) (x1 : Vec Ideal S1x1024x128 .i8) (x2 : Vec Ideal S1024x1024 .fp8e4m3) (x3 : Vec Ideal S32x1024 .i8) (x4 : Vec Ideal S1024x1024 .bf16) :
    sout0_A_1 c i arg3 harg3 arg4 harg4 arg5 harg5 arg6 harg6 arg7 harg7 arg8 harg8 arg9 harg9 arg10 harg10 hc0 hc1 hc2 x0 x1 x2 x3 x4 = stepBlock x0 x1 x2 x3 := by
  unfold sout0_A_1
  rw [View.read_writes_junk_eq_canon]
  unfold kernelRun0_A
  dsimp only
  sl_unfold_words
  refine (View.canon_unit_zero hz _ _).trans (first_val harg5 harg6 _ ?_ (of_tiles (harg3 := harg3) (harg4 := harg4) (BitVec.ofNat 32 ↑(i 2)) ?_))
  · sl_kernel_rfl
  · sl_kernel_rfl

end Cert.MxDown

end
-- ==== Proof.CaseB.lean ====
/-
  A grid point in the middle of a run: the block product is added to the accumulator.
-/
module

public import proofs.«01_k».proof.Proof.Gen.DownIdeal.Frame
public import proofs.«01_k».proof.Proof.Block

@[expose] public section

noncomputable section

namespace Cert.MxDown

open Idealize.ShloMosaic Idealize.ShloMosaic.ValueIdx Cert.DownIdeal Cert.DownIdeal.Gen Idealize.SL.Sem

/-- The accumulator after a point in the middle of a run. -/
theorem sout_B (c : Dev nD) (i : grid0.Coords) (arg3 : Memref sig .tc .vmem S1024x1024 .fp8e4m3) (harg3 : arg3.IsWhole) (arg4 : Memref sig .tc .vmem S1x1024x128 .i8) (harg4 : arg4.IsWhole) (arg5 : Memref sig .tc .vmem S1024x1024 .fp8e4m3) (harg5 : arg5.IsWhole) (arg6 : Memref sig .tc .vmem S32x1024 .i8) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole)
    (hc0 : ¬cond0_0 i) (hc1 : cond0_1 i) (hc2 : ¬cond0_2 i)
    (x0 : Vec Ideal S1024x1024 .fp8e4m3) (x1 : Vec Ideal S1x1024x128 .i8) (x2 : Vec Ideal S1024x1024 .fp8e4m3) (x3 : Vec Ideal S32x1024 .i8) (x4 : Vec Ideal S1024x1024 .bf16) (xs1 : Vec Ideal S1024x1024 .f32) :
    sout0_B_1 c i arg3 harg3 arg4 harg4 arg5 harg5 arg6 harg6 arg7 harg7 arg8 harg8 arg9 harg9 arg10 harg10 hc0 hc1 hc2 x0 x1 x2 x3 x4 xs1 = fun j => (xs1 j + stepBlock x0 x1 x2 x3 j : EReal) := by
  unfold sout0_B_1
  rw [View.read_writes_junk_eq_canon]
  unfold kernelRun0_B
  dsimp only
  sl_unfold_words
  refine (View.canon_unit_zero hz _ _).trans (step_val harg5 harg6 harg10 _ ?_ (of_tiles (harg3 := harg3) (harg4 := harg4) (BitVec.ofNat 32 ↑(i 2)) ?_))
  · sl_kernel_rfl
  · sl_kernel_rfl

end Cert.MxDown

end
-- ==== Proof.CaseC.lean ====
/-
  The last grid point of a run: the residual and the finished accumulator are added and stored.
-/
module

public import proofs.«01_k».proof.Proof.Gen.DownIdeal.Frame
public import proofs.«01_k».proof.Proof.Block

@[expose] public section

noncomputable section

namespace Cert.MxDown

open Idealize.ShloMosaic Idealize.ShloMosaic.ValueIdx Cert.DownIdeal Cert.DownIdeal.Gen Idealize.SL.Sem

/-- The block of the result that the last point of a run stores. -/
theorem out_C (c : Dev nD) (i : grid0.Coords) (arg3 : Memref sig .tc .vmem S1024x1024 .fp8e4m3) (harg3 : arg3.IsWhole) (arg4 : Memref sig .tc .vmem S1x1024x128 .i8) (harg4 : arg4.IsWhole) (arg5 : Memref sig .tc .vmem S1024x1024 .fp8e4m3) (harg5 : arg5.IsWhole) (arg6 : Memref sig .tc .vmem S32x1024 .i8) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole)
    (hc0 : ¬cond0_0 i) (hc1 : cond0_1 i) (hc2 : cond0_2 i)
    (x0 : Vec Ideal S1024x1024 .fp8e4m3) (x1 : Vec Ideal S1x1024x128 .i8) (x2 : Vec Ideal S1024x1024 .fp8e4m3) (x3 : Vec Ideal S32x1024 .i8) (x4 : Vec Ideal S1024x1024 .bf16) (xs1 : Vec Ideal S1024x1024 .f32) :
    out0_C_5 c i arg3 harg3 arg4 harg4 arg5 harg5 arg6 harg6 arg7 harg7 arg8 harg8 arg9 harg9 arg10 harg10 hc0 hc1 hc2 x0 x1 x2 x3 x4 xs1 = fun j => (x4 j + (xs1 j + stepBlock x0 x1 x2 x3 j) : EReal) := by
  unfold out0_C_5
  rw [View.read_writes_junk_eq_canon]
  unfold kernelRun0_C
  dsimp only
  sl_unfold_words
  refine (View.canon_unit_zero hz _ _).trans (last_val harg5 harg6 harg7 harg10 _ ?_ (of_tiles (harg3 := harg3) (harg4 := harg4) (BitVec.ofNat 32 ↑(i 2)) ?_))
  · sl_kernel_rfl
  · sl_kernel_rfl

end Cert.MxDown

end
-- ==== Proof.Fold.lean ====
/-
  What the kernel's result array holds, over the blocks that its grid points read: the residual plus the sum of the
  twelve block products of the run that ends with the block's write-back.
-/
module

public import proofs.«01_k».proof.Proof.Gen.DownIdeal.Value
public import proofs.«01_k».proof.Proof.CaseA
public import proofs.«01_k».proof.Proof.CaseB
public import proofs.«01_k».proof.Proof.CaseC

@[expose] public section

noncomputable section

namespace Cert.MxDown

open Idealize.ShloMosaic Idealize.ShloMosaic.ValueIdx Cert.DownIdeal Cert.DownIdeal.Gen Idealize.SL.Sem

variable (m : (ℓ : Loc nD τ sig) → Buf (Elt Ideal) ℓ)

/-- The block product that grid point `n` adds, from the blocks its windows read. -/
def stepAt (c : Dev nD) (n : ℕ) (j : S1024x1024.Idx) : EReal :=
  if h : n < cfg0.N then stepBlock (iblk m c 0 ⟨n, h⟩) (iblk m c 1 ⟨n, h⟩) (iblk m c 2 ⟨n, h⟩) (iblk m c 3 ⟨n, h⟩) j else 0

theorem stepAt_eq (c : Dev nD) (t : Fin cfg0.N) (j : S1024x1024.Idx) :
    stepAt m c t.val j = stepBlock (iblk m c 0 t) (iblk m c 1 t) (iblk m c 2 t) (iblk m c 3 t) j := dif_pos t.isLt

/-- The residual's block that grid point `t` reads. -/
def resAt (c : Dev nD) (t : Fin cfg0.N) (j : S1024x1024.Idx) : EReal := iblk m c 4 t j

/-- The accumulator after the point `k` of the run `q`, for a point that is not the run's last: the block products so far. -/
theorem acc_eq (c : Dev nD) (q : ℕ) : ∀ (k : ℕ) (_ : k < 11) (h : 12 * q + k < cfg0.N) (j : S1024x1024.Idx),
    (outsAt0 m c (12 * q + k) h).2 j = ∑ n ∈ Finset.range (k + 1), stepAt m c (12 * q + n) j
  | 0, _, h, j => by
    rw [outsAt0_A m c ⟨12 * q + 0, h⟩ (by dsimp only; omega) (by dsimp only; omega) (by dsimp only; omega)]
    dsimp only
    rw [sout_A, Finset.sum_range_one]
    exact (stepAt_eq m c ⟨12 * q + 0, h⟩ j).symm
  | k + 1, hk, h, j => by
    rw [outsAt0_B m c ⟨12 * q + (k + 1), h⟩ (by dsimp only; omega) (by dsimp only; omega) (by dsimp only; omega)]
    dsimp only
    rw [sout_B, Finset.sum_range_succ]
    exact congrArg₂ (· + ·) (acc_eq c q k (by omega) (by omega) j) (stepAt_eq m c ⟨12 * q + (k + 1), h⟩ j).symm

/-- What the run's last point stores: the residual's block plus all twelve block products. -/
theorem last_eq (c : Dev nD) (q : ℕ) (h : 12 * q + 11 < cfg0.N) (j : S1024x1024.Idx) :
    (outsAt0 m c (12 * q + 11) h).1 j
      = (resAt m c ⟨12 * q + 11, h⟩ j + ∑ n ∈ Finset.range 12, stepAt m c (12 * q + n) j : EReal) := by
  rw [outsAt0_C m c ⟨12 * q + 11, h⟩ (by dsimp only; omega) (by dsimp only; omega) (by dsimp only; omega)]
  dsimp only
  rw [out_C, Finset.sum_range_succ]
  exact congrArg _ (congrArg₂ (· + ·) (acc_eq m c q 10 (by omega) (by omega) j) (stepAt_eq m c ⟨12 * q + 11, h⟩ j).symm)

/-- The result array at an index: the residual there plus the block products of the run of the index's block. -/
theorem G5_eq (c : Dev nD) (i : S6144x4096.Idx) (h : 12 * Cert.DownIdeal.Value.run5Of i + 11 < cfg0.N) :
    Cert.DownIdeal.Value.G5 m c i = (resAt m c ⟨12 * Cert.DownIdeal.Value.run5Of i + 11, h⟩ (Cert.DownIdeal.Value.loc5Of i)
      + ∑ n ∈ Finset.range 12, stepAt m c (12 * Cert.DownIdeal.Value.run5Of i + n) (Cert.DownIdeal.Value.loc5Of i) : EReal) := by
  unfold Cert.DownIdeal.Value.G5
  rw [dif_pos h, ← Cert.DownIdeal.Value.outsAt0_sweep m c _ h]
  exact last_eq m c _ h _

end Cert.MxDown

end
-- ==== Proof.Reads.lean ====
/-
  What the kernel's windows read: each block's element is an element of an argument array.
-/
module

public import proofs.«01_k».proof.Proof.Gen.DownIdeal.Frame
public import Idealize.ShloMosaic.Lib.Pipeline.Value
public import proofs.«01_k».proof.Proof.Block
public import Idealize.ShloMosaic.Lib.Claim
public import Idealize.ShloMosaic.Lib.KernelVsHost
public import Idealize.ShloMosaic.Lib.ValueLayout

@[expose] public section

noncomputable section

namespace Cert.MxDown

open Idealize.ShloMosaic Idealize.ShloMosaic.ValueIdx Cert.DownIdeal Cert.DownIdeal.Gen Idealize.SL.Sem Idealize.ShloMosaic.TcCoe

variable (m : (ℓ : Loc nD τ sig) → Buf (Elt Ideal) ℓ)

/-- The blocks that each window reads at point `t`, decided over the grid. -/
theorem win_idx : ∀ t : Fin cfg0.N,
    (win0_0.index t 0 = t.val / 48 ∧ win0_0.index t 1 = t.val % 12)
    ∧ (win0_1.index t 0 = t.val % 12 ∧ win0_1.index t 1 = t.val / 48 ∧ win0_1.index t 2 = 0)
    ∧ (win0_2.index t 0 = t.val % 12 ∧ win0_2.index t 1 = t.val / 12 % 4)
    ∧ (win0_3.index t 0 = t.val % 12 ∧ win0_3.index t 1 = t.val / 12 % 4)
    ∧ (win0_4.index t 0 = t.val / 48 ∧ win0_4.index t 1 = t.val / 12 % 4) :=
  (by decide +kernel : ∀ t : Fin grid0.N, _)

/-- The codes' rows, flattened on the host. -/
theorem entry_h (c : Dev nD) : V m c main_v0
    = shapeCast S6144x12288 (m ((c : Thread nD τ).loc main_arg0)) shapeCasts_S6x1024x12288_S6144x12288 := by
  show StableHlo.after _ _ _ = _
  simp only [hostOps0, hostOps0_1, List.flatten_cons, List.flatten_nil, List.append_nil, List.cons_append, List.nil_append]
  after_results_simp
  rfl

/-- The residual's rows, flattened on the host. -/
theorem entry_res (c : Dev nD) : V m c main_v2
    = shapeCast S6144x4096 (m ((c : Thread nD τ).loc main_arg4)) shapeCasts_S6x1024x4096_S6144x4096 := by
  show StableHlo.after _ _ _ = _
  simp only [hostOps0, hostOps0_1, List.flatten_cons, List.flatten_nil, List.append_nil, List.cons_append, List.nil_append]
  after_results_simp
  rfl

/-- The scales, on the host: grouped by block of columns, that group first, and padded to whole lanes. -/
theorem entry_hs (c : Dev nD) : V m c main_v5
    = pad S12x6144x128 ![0, 0, 0] ![0, 0, 96] ![0, 0, 0] (transpose S12x6144x32 [1, 0, 2]
        (shapeCast S6144x12x32 (shapeCast S6144x384 (m ((c : Thread nD τ).loc main_arg1)) shapeCasts_S6x1024x384_S6144x384)
          shapeCasts_S6144x384_S6144x12x32) transposes_S6144x12x32_S12x6144x32_1_0_2)
        (trunci 8 (constantI S_ 32 0#32) natLt_8_32) pads_S12x6144x32_S12x6144x128_000_000_0960 h_S_ := by
  show StableHlo.after _ _ _ = _
  simp only [hostOps0, hostOps0_1, List.flatten_cons, List.flatten_nil, List.append_nil, List.cons_append, List.nil_append]
  after_results_simp
  rfl

/-- A block of the left operand's codes, from the array as launched: row `1024·i + r` of the flattened rows. -/
theorem read_h (c : Dev nD) (t : Fin cfg0.N) (r k : Fin 1024) (g : Fin 6) (hg : g.val = t.val / 48)
    (f : Fin 12288) (hf : f.val = 1024 * (t.val % 12) + k.val) :
    iblk m c 0 t (ix2 r k) = m ((c : Thread nD τ).loc main_arg0) (ix3 g r f) := by
  have hi := (win_idx t).1
  unfold iblk
  rw [View.read_apply]
  show V m c main_v0 _ = _
  rw [entry_h]
  refine shapeCast_apply _ _ _ (ix3 g r f) ((Shape.rowMajor_val_three _).trans (Eq.trans ?_ (Shape.rowMajor_val_two (d := ![6144, 12288]) _).symm))
  show (g.val * 1024 + r.val) * 12288 + f.val = (win0_0.index t 0 * 1024 + 1 * r.val) * 12288 + (win0_0.index t 1 * 1024 + 1 * k.val)
  rw [hi.1, hi.2]; omega

/-- A block of the left operand's scales, through the transpose and the padding. -/
theorem read_hs (c : Dev nD) (t : Fin cfg0.N) (r : Fin 1024) (l : Fin 128) (hl : l.val < 32) (g : Fin 6) (hg : g.val = t.val / 48)
    (f : Fin 384) (hf : f.val = 32 * (t.val % 12) + l.val) :
    iblk m c 1 t (ix3 (0 : Fin 1) r l) = m ((c : Thread nD τ).loc main_arg1) (ix3 g r f) := by
  have hi := (win_idx t).2.1
  unfold iblk
  rw [View.read_apply]
  show V m c main_v5 _ = _
  rw [entry_hs]
  have hg6 : t.val / 48 < 6 := hg ▸ g.isLt
  have hk12 : t.val % 12 < 12 := Nat.mod_lt _ (by decide)
  refine (pad_apply_of_inside _ _ _ _ _ _ _ _ (ix3 (⟨t.val % 12, hk12⟩ : Fin 12) (⟨1024 * (t.val / 48) + r.val, by omega⟩ : Fin 6144) (⟨l.val, hl⟩ : Fin 32)) ?_).trans ?_
  · intro a
    match a with
    | ⟨0, _⟩ => show win0_1.index t 0 * 1 + 1 * 0 = 0 + t.val % 12 * (0 + 1); rw [hi.1]; omega
    | ⟨1, _⟩ => show win0_1.index t 1 * 1024 + 1 * r.val = 0 + (1024 * (t.val / 48) + r.val) * (0 + 1); rw [hi.2.1]; omega
    | ⟨2, _⟩ => show win0_1.index t 2 * 128 + 1 * l.val = 0 + l.val * (0 + 1); rw [hi.2.2]; omega
  refine (transpose_apply _ _ _ _ (ix3 (⟨1024 * (t.val / 48) + r.val, by omega⟩ : Fin 6144) (⟨t.val % 12, hk12⟩ : Fin 12) (⟨l.val, hl⟩ : Fin 32))
    fun a => match a with | ⟨0, _⟩ => rfl | ⟨1, _⟩ => rfl | ⟨2, _⟩ => rfl).trans ?_
  refine (shapeCast_apply _ _ _ (ix2 (⟨1024 * (t.val / 48) + r.val, by omega⟩ : Fin 6144) f) ?_).trans (shapeCast_apply _ _ _ (ix3 g r f) ?_)
  · rw [Shape.rowMajor_val_two, Shape.rowMajor_val_three]
    show (1024 * (t.val / 48) + r.val) * 384 + f.val = ((1024 * (t.val / 48) + r.val) * 12 + t.val % 12) * 32 + l.val
    omega
  · rw [Shape.rowMajor_val_two, Shape.rowMajor_val_three]
    show (g.val * 1024 + r.val) * 384 + f.val = (1024 * (t.val / 48) + r.val) * 384 + f.val
    omega

/-- A block of the weight's codes. -/
theorem read_w (c : Dev nD) (t : Fin cfg0.N) (k n : Fin 1024) (f : Fin 12288) (hf : f.val = 1024 * (t.val % 12) + k.val)
    (d : Fin 4096) (hd : d.val = 1024 * (t.val / 12 % 4) + n.val) :
    iblk m c 2 t (ix2 k n) = m ((c : Thread nD τ).loc main_arg2) (ix2 f d) := by
  have hi := (win_idx t).2.2.1
  unfold iblk
  rw [View.read_apply]
  show V m c main_arg2 _ = _
  rw [V_main_arg2]
  congr 1
  funext a
  apply Fin.ext
  match a with
  | ⟨0, _⟩ => show win0_2.index t 0 * 1024 + 1 * k.val = f.val; rw [hi.1]; omega
  | ⟨1, _⟩ => show win0_2.index t 1 * 1024 + 1 * n.val = d.val; rw [hi.2]; omega

/-- A block of the weight's scales. -/
theorem read_ws (c : Dev nD) (t : Fin cfg0.N) (k : Fin 32) (n : Fin 1024) (f : Fin 384) (hf : f.val = 32 * (t.val % 12) + k.val)
    (d : Fin 4096) (hd : d.val = 1024 * (t.val / 12 % 4) + n.val) :
    iblk m c 3 t (ix2 k n) = m ((c : Thread nD τ).loc main_arg3) (ix2 f d) := by
  have hi := (win_idx t).2.2.2.1
  unfold iblk
  rw [View.read_apply]
  show V m c main_arg3 _ = _
  rw [V_main_arg3]
  congr 1
  funext a
  apply Fin.ext
  match a with
  | ⟨0, _⟩ => show win0_3.index t 0 * 32 + 1 * k.val = f.val; rw [hi.1]; omega
  | ⟨1, _⟩ => show win0_3.index t 1 * 1024 + 1 * n.val = d.val; rw [hi.2]; omega

/-- A block of the residual. -/
theorem read_res (c : Dev nD) (t : Fin cfg0.N) (r n : Fin 1024) (g : Fin 6) (hg : g.val = t.val / 48)
    (d : Fin 4096) (hd : d.val = 1024 * (t.val / 12 % 4) + n.val) :
    iblk m c 4 t (ix2 r n) = m ((c : Thread nD τ).loc main_arg4) (ix3 g r d) := by
  have hi := (win_idx t).2.2.2.2
  unfold iblk
  rw [View.read_apply]
  show V m c main_v2 _ = _
  rw [entry_res]
  refine shapeCast_apply _ _ _ (ix3 g r d) ((Shape.rowMajor_val_three _).trans (Eq.trans ?_ (Shape.rowMajor_val_two (d := ![6144, 4096]) _).symm))
  show (g.val * 1024 + r.val) * 4096 + d.val = (win0_4.index t 0 * 1024 + 1 * r.val) * 4096 + (win0_4.index t 1 * 1024 + 1 * n.val)
  rw [hi.1, hi.2]; omega

end Cert.MxDown

end
-- ==== Proof.Ref.lean ====
/-
  What the reference computes: at each row and column, the residual plus the product of the two dequantised arrays.
-/
module

public import proofs.«01_k».proof.Proof.Gen.DownRefIdeal.Value
public import Idealize.ShloMosaic.Lib.Pipeline.Value
public import Idealize.ShloMosaic.Lib.Claim
public import Idealize.ShloMosaic.Lib.ValueLayout
public import Idealize.ShloMosaic.PureOps.Ideal.Laws

@[expose] public section

noncomputable section

namespace Cert.MxDownRef

open Idealize.ShloMosaic Idealize.ShloMosaic.ValueIdx Cert.DownRefIdeal Cert.DownRefIdeal.Gen Idealize.SL.Sem Idealize.ShloMosaic.TcCoe

/-- An e8m0 code's value: two to its exponent, which is biased by 127. -/
abbrev scaleVal (c : BitVec 8) : EReal := Ideal.exp2 ((((c.setWidth 32 - 127#32).toInt : ℝ)) : EReal)

/-- The left operand's dequantised array at a row and a column. -/
theorem left_apply (x : Vec Ideal S6144x12288 .fp8e4m3) (s : Vec Ideal S6144x384 .i8) (i : Fin 6144) (f : Fin 12288) :
    shapeCast S6144x12288 (mulf (F := Ideal) (φ := .bf16) (shapeCast S6144x384x32 (extf (F := Ideal) .bf16 x bitsLt_fp8e4m3_bf16) shapeCasts_S6144x12288_S6144x384x32)
      (broadcastTo S6144x384x32 (shapeCast S6144x384x1 (truncf (F := Ideal) .bf16 (exp2 (F := Ideal) (sitofp .f32 (subi (extui 32 s natLt_8_32) (broadcast S6144x384 127#32)))) bitsLt_bf16_f32)
        shapeCasts_S6144x384_S6144x384x1) broadcasts_S6144x384x1_S6144x384x32)) shapeCasts_S6144x384x32_S6144x12288 (ix2 i f)
      = (x (ix2 i f) * scaleVal (s (ix2 i (⟨f.val / 32, by omega⟩ : Fin 384))) : EReal) := by
  rw [shapeCast_apply _ _ (ix2 i f) (ix3 i (⟨f.val / 32, by omega⟩ : Fin 384) (⟨f.val % 32, by omega⟩ : Fin 32)) (by
      rw [Shape.rowMajor_val_two, Shape.rowMajor_val_three]
      show (i.val * 384 + f.val / 32) * 32 + f.val % 32 = i.val * 12288 + f.val
      omega)]
  show ((shapeCast S6144x384x32 _ _ _ * broadcastTo S6144x384x32 _ _ _ : EReal)) = _
  rw [shapeCast_apply _ shapeCasts_S6144x12288_S6144x384x32 _ (ix2 i f) (by
      rw [Shape.rowMajor_val_two, Shape.rowMajor_val_three]
      show i.val * 12288 + f.val = (i.val * 384 + f.val / 32) * 32 + f.val % 32
      omega),
    broadcastTo_apply _ _ _ (ix3 i (⟨f.val / 32, by omega⟩ : Fin 384) (0 : Fin 1)) (by
      intro a
      match a with
      | ⟨0, _⟩ => rfl
      | ⟨1, _⟩ => rfl
      | ⟨2, _⟩ => rfl),
    shapeCast_apply _ _ _ (ix2 i (⟨f.val / 32, by omega⟩ : Fin 384)) (by
      rw [Shape.rowMajor_val_two, Shape.rowMajor_val_three]
      show i.val * 384 + f.val / 32 = (i.val * 384 + f.val / 32) * 1 + 0
      omega)]
  rfl

/-- The weight's dequantised array at a row and a column. -/
theorem right_apply (x : Vec Ideal S12288x4096 .fp8e4m3) (s : Vec Ideal S384x4096 .i8) (f : Fin 12288) (d : Fin 4096) :
    shapeCast S12288x4096 (mulf (F := Ideal) (φ := .bf16) (shapeCast S384x32x4096 (extf (F := Ideal) .bf16 x bitsLt_fp8e4m3_bf16) shapeCasts_S12288x4096_S384x32x4096)
      (broadcastTo S384x32x4096 (shapeCast S384x1x4096 (truncf (F := Ideal) .bf16 (exp2 (F := Ideal) (sitofp .f32 (subi (extui 32 s natLt_8_32) (broadcast S384x4096 127#32)))) bitsLt_bf16_f32)
        shapeCasts_S384x4096_S384x1x4096) broadcasts_S384x1x4096_S384x32x4096)) shapeCasts_S384x32x4096_S12288x4096 (ix2 f d)
      = (x (ix2 f d) * scaleVal (s (ix2 (⟨f.val / 32, by omega⟩ : Fin 384) d)) : EReal) := by
  rw [shapeCast_apply _ _ (ix2 f d) (ix3 (⟨f.val / 32, by omega⟩ : Fin 384) (⟨f.val % 32, by omega⟩ : Fin 32) d) (by
      rw [Shape.rowMajor_val_two, Shape.rowMajor_val_three]
      show (f.val / 32 * 32 + f.val % 32) * 4096 + d.val = f.val * 4096 + d.val
      omega)]
  show ((shapeCast S384x32x4096 _ _ _ * broadcastTo S384x32x4096 _ _ _ : EReal)) = _
  rw [shapeCast_apply _ shapeCasts_S12288x4096_S384x32x4096 _ (ix2 f d) (by
      rw [Shape.rowMajor_val_two, Shape.rowMajor_val_three]
      show f.val * 4096 + d.val = (f.val / 32 * 32 + f.val % 32) * 4096 + d.val
      omega),
    broadcastTo_apply _ _ _ (ix3 (⟨f.val / 32, by omega⟩ : Fin 384) (0 : Fin 1) d) (by
      intro a
      match a with
      | ⟨0, _⟩ => rfl
      | ⟨1, _⟩ => rfl
      | ⟨2, _⟩ => rfl),
    shapeCast_apply _ _ _ (ix2 (⟨f.val / 32, by omega⟩ : Fin 384) d) (by
      rw [Shape.rowMajor_val_two, Shape.rowMajor_val_three]
      show f.val / 32 * 4096 + d.val = (f.val / 32 * 1 + 0) * 4096 + d.val
      omega)]
  rfl

/-- The reference's body, at a row and a column. -/
theorem pay_apply (x0 : Vec Ideal S6144x12288 .fp8e4m3) (x1 : Vec Ideal S6144x384 .i8) (x2 : Vec Ideal S12288x4096 .fp8e4m3)
    (x3 : Vec Ideal S384x4096 .i8) (x4 : Vec Ideal S6144x4096 .bf16) (i : Fin 6144) (d : Fin 4096) :
    k0_pay1 x0 x1 x2 x3 x4 (ix2 i d) = (x4 (ix2 i d) + ∑ f : Fin 12288,
      x0 (ix2 i f) * scaleVal (x1 (ix2 i (⟨f.val / 32, by omega⟩ : Fin 384)))
        * (x2 (ix2 f d) * scaleVal (x3 (ix2 (⟨f.val / 32, by omega⟩ : Fin 384) d))) : EReal) := by
  unfold k0_pay1
  simp only [shapeCast_self, matmul]
  refine congrArg (fun y : EReal => (x4 (ix2 i d) + y : EReal)) ?_
  rw [Ideal.matmul_constant_zero_apply,
    ← Equiv.sum_comp (contrEquiv1 dot_S6144x12288_S12288x4096_S6144x4096_1_0_0_1_n_n 12288 rfl rfl).symm]
  refine Finset.sum_congr rfl fun f _ => ?_
  refine congrArg₂ (· * ·) (Eq.trans (congrArg _ ?_) (left_apply x0 x1 i f)) (Eq.trans (congrArg _ ?_) (right_apply x2 x3 f d))
  · funext a; match a with | ⟨0, _⟩ => rfl | ⟨1, _⟩ => rfl
  · funext a; match a with | ⟨0, _⟩ => rfl | ⟨1, _⟩ => rfl

variable (m : (ℓ : Loc nD τ sig) → Buf (Elt Ideal) ℓ)

/-- The one grid point. -/
def t₀ : Fin cfg0.N := ⟨0, by decide⟩

/-- The result array after the run, read through its one block, is what the one point's write-back wrote. -/
theorem final_out (c : Dev nD) :
    ((cfg0.win 5).blk t₀).view.read (Elt Ideal) ((dats m 0 c).arrAt 5 cfg0.N) = (dats m 0 c).flushed 5 t₀ := by
  rw [show cfg0.N = (t₀ : Fin cfg0.N).val + 1 from rfl, (dats m 0 c).arrAt_succ 5 t₀]
  rw [show (cfg0.win 5).flush t₀ = true from by decide, if_pos rfl]
  exact View.read_write_univ _ _

/-- The whole-buffer loads read the buffers and the one covering store leaves its payload. -/
theorem out_eq (x0 : Vec Ideal S6144x12288 .fp8e4m3) (x1 : Vec Ideal S6144x384 .i8) (x2 : Vec Ideal S12288x4096 .fp8e4m3)
    (x3 : Vec Ideal S384x4096 .i8) (x4 : Vec Ideal S6144x4096 .bf16) : out0_5 x0 x1 x2 x3 x4 = k0_pay1 x0 x1 x2 x3 x4 := by
  have hz : (![0, 0] : Fin 2 → Nat) = fun _ => 0 := funext fun a => by fin_cases a <;> rfl
  unfold out0_5
  rw [View.canon_unit_zero hz, View.ld_unit_zero (S := S6144x12288) hz, View.ld_unit_zero (S := S6144x384) hz,
    View.ld_unit_zero (S := S12288x4096) hz, View.ld_unit_zero (S := S384x4096) hz, View.ld_unit_zero (S := S6144x4096) hz]

/-- The result array holds the body's value of the arrays its windows stage. -/
theorem final_value (c : Dev nD) :
    (dats m 0 c).arrAt 5 cfg0.N = k0_pay1 (V m c main_v0) (V m c main_v1) (V m c main_arg2) (V m c main_arg3) (V m c main_v2) := by
  have ho := final_out m c
  have hz5 : (fun a => (win0_5.index t₀) a * main_v3.ty.shape.size a) = fun _ => 0 := funext fun a => by fin_cases a <;> decide
  have hr5 := fun f => Memref.read_access_unit_zero (Elt Ideal) main_v3 hz5 (fun a => by fin_cases a <;> decide) f
  have hz0 : (fun a => (win0_0.index t₀) a * main_v0.ty.shape.size a) = fun _ => 0 := funext fun a => by fin_cases a <;> decide
  have hr0 := fun f => Memref.read_access_unit_zero (Elt Ideal) main_v0 hz0 (fun a => by fin_cases a <;> decide) f
  have hz1 : (fun a => (win0_1.index t₀) a * main_v1.ty.shape.size a) = fun _ => 0 := funext fun a => by fin_cases a <;> decide
  have hr1 := fun f => Memref.read_access_unit_zero (Elt Ideal) main_v1 hz1 (fun a => by fin_cases a <;> decide) f
  have hz2 : (fun a => (win0_2.index t₀) a * main_arg2.ty.shape.size a) = fun _ => 0 := funext fun a => by fin_cases a <;> decide
  have hr2 := fun f => Memref.read_access_unit_zero (Elt Ideal) main_arg2 hz2 (fun a => by fin_cases a <;> decide) f
  have hz3 : (fun a => (win0_3.index t₀) a * main_arg3.ty.shape.size a) = fun _ => 0 := funext fun a => by fin_cases a <;> decide
  have hr3 := fun f => Memref.read_access_unit_zero (Elt Ideal) main_arg3 hz3 (fun a => by fin_cases a <;> decide) f
  have hz4 : (fun a => (win0_4.index t₀) a * main_v2.ty.shape.size a) = fun _ => 0 := funext fun a => by fin_cases a <;> decide
  have hr4 := fun f => Memref.read_access_unit_zero (Elt Ideal) main_v2 hz4 (fun a => by fin_cases a <;> decide) f
  rw [hr5] at ho
  rw [ho]
  show (cfg0.win 5).cut _ ((dats m 0 c).after 5 t₀) = _
  rw [after0_5, out_eq]
  unfold iblk
  rw [hr0, hr1, hr2, hr3, hr4]
  rfl

/-- The result array after the run, at row `1024·g + r` and column `d`, over the arrays as launched. -/
theorem result_apply (c : Dev nD) (g : Fin 6) (r : Fin 1024) (i : Fin 6144) (hi : i.val = 1024 * g.val + r.val) (d : Fin 4096) :
    (dats m 0 c).arrAt 5 cfg0.N (ix2 i d) = ((show EReal from m ((c : Thread nD τ).loc main_arg4) (ix3 g r d)) + ∑ f : Fin 12288,
      (show EReal from m ((c : Thread nD τ).loc main_arg0) (ix3 g r f))
          * scaleVal (m ((c : Thread nD τ).loc main_arg1) (ix3 g r (⟨f.val / 32, by omega⟩ : Fin 384)))
        * ((show EReal from m ((c : Thread nD τ).loc main_arg2) (ix2 f d))
          * scaleVal (m ((c : Thread nD τ).loc main_arg3) (ix2 (⟨f.val / 32, by omega⟩ : Fin 384) d))) : EReal) := by
  rw [final_value, pay_apply]
  have e0 : ∀ f : Fin 12288, V m c main_v0 (ix2 i f) = m ((c : Thread nD τ).loc main_arg0) (ix3 g r f) := by
    intro f
    entry_read
    refine shapeCast_apply _ _ _ (ix3 g r f) ((Shape.rowMajor_val_three _).trans (Eq.trans ?_ (Shape.rowMajor_val_two (d := ![6144, 12288]) _).symm))
    show (g.val * 1024 + r.val) * 12288 + f.val = i.val * 12288 + f.val
    omega
  have e1 : ∀ f : Fin 384, V m c main_v1 (ix2 i f) = m ((c : Thread nD τ).loc main_arg1) (ix3 g r f) := by
    intro f
    entry_read
    refine shapeCast_apply _ _ _ (ix3 g r f) ((Shape.rowMajor_val_three _).trans (Eq.trans ?_ (Shape.rowMajor_val_two (d := ![6144, 384]) _).symm))
    show (g.val * 1024 + r.val) * 384 + f.val = i.val * 384 + f.val
    omega
  have e4 : V m c main_v2 (ix2 i d) = m ((c : Thread nD τ).loc main_arg4) (ix3 g r d) := by
    entry_read
    refine shapeCast_apply _ _ _ (ix3 g r d) ((Shape.rowMajor_val_three _).trans (Eq.trans ?_ (Shape.rowMajor_val_two (d := ![6144, 4096]) _).symm))
    show (g.val * 1024 + r.val) * 4096 + d.val = i.val * 4096 + d.val
    omega
  rw [V_main_arg2, V_main_arg3]
  refine congrArg₂ (· + ·) e4 (Finset.sum_congr rfl fun f _ => ?_)
  exact congrArg₂ (· * ·) (congrArg₂ (· * ·) (e0 f) (congrArg scaleVal (e1 _))) rfl

end Cert.MxDownRef

end
-- ==== Proof.Equation.lean ====
/-
  The kernel's result array at a row and a column, over the arrays as launched: the runs of twelve block products re-joined into
  the one sum over the whole inner axis.
-/
module

public import proofs.«01_k».proof.Defs
public import proofs.«01_k».proof.Proof.Gen.Pre_normal_scales
public import proofs.«01_k».proof.Proof.Bits
public import proofs.«01_k».proof.Proof.Fold
public import proofs.«01_k».proof.Proof.Reads
public import proofs.«01_k».proof.Proof.Ref
public import Idealize.ShloMosaic.Lib.Pointwise.Sums

@[expose] public section

noncomputable section

namespace Cert.MxDown

open Idealize.ShloMosaic hiding ix2 ix3
open Idealize.ShloMosaic.ValueIdx Cert.DownIdeal Cert.DownIdeal.Gen Idealize.SL.Sem Idealize.ShloMosaic.TcCoe
open Cert.MxDownRef (scaleVal)

/-- No scale byte is 0 or 255. -/
structure Normal (m : (ℓ : Loc nD τ sig) → Buf (Elt Ideal) ℓ) : Prop where
  act : ∀ (c : Dev nD) (x : S6x1024x384.Idx), scaleOf (m ((c : Thread nD τ).loc main_arg1) x) = scaleVal (m ((c : Thread nD τ).loc main_arg1) x)
  wgt : ∀ (c : Dev nD) (x : S384x4096.Idx), scaleOf (m ((c : Thread nD τ).loc main_arg3) x) = scaleVal (m ((c : Thread nD τ).loc main_arg3) x)

theorem le_of_mask {n : ℕ} {a b : BitVec n} (h : IntOp.cmpi .uge a b = 1#1) : b.toNat ≤ a.toNat := by
  by_contra hc
  simp [IntOp.cmpi, BitVec.ule, hc] at h

theorem ge_of_mask {n : ℕ} {a b : BitVec n} (h : IntOp.cmpi .ule a b = 1#1) : a.toNat ≤ b.toNat := by
  by_contra hc
  simp [IntOp.cmpi, BitVec.ule, hc] at h

/-- The precondition, read at each byte. -/
theorem normal_of_pre (m : (ℓ : Loc nD τ sig) → Buf (Elt Ideal) ℓ)
    (h : Cert.Pre_DownIdeal_normal_scales (hPre_normal_scales := Cert.Pre_normal_scales.Gen.facts) m) : Normal m where
  act c x := scale_decode _ (le_of_mask (congrFun (h c).1 x)) (ge_of_mask (congrFun (h c).2.1 x))
  wgt c x := scale_decode _ (le_of_mask (congrFun (h c).2.2.1 x)) (ge_of_mask (congrFun (h c).2.2.2 x))

variable (m : (ℓ : Loc nD τ sig) → Buf (Elt Ideal) ℓ)

/-- One term of the inner sum. -/
def term (c : Dev nD) (g : Fin 6) (r : Fin 1024) (d : Fin 4096) (f : Fin 12288) : EReal :=
  (show EReal from m ((c : Thread nD τ).loc main_arg0) (ix3 g r f))
      * scaleVal (m ((c : Thread nD τ).loc main_arg1) (ix3 g r (⟨f.val / 32, by omega⟩ : Fin 384)))
    * ((show EReal from m ((c : Thread nD τ).loc main_arg2) (ix2 f d))
      * scaleVal (m ((c : Thread nD τ).loc main_arg3) (ix2 (⟨f.val / 32, by omega⟩ : Fin 384) d)))

/-- One grid point's block product, over the arrays as launched. -/
theorem step_value (hn : Normal m) (c : Dev nD) (t : Fin cfg0.N) (r n : Fin 1024) (g : Fin 6) (hg : g.val = t.val / 48)
    (d : Fin 4096) (hd : d.val = 1024 * (t.val / 12 % 4) + n.val) :
    stepAt m c t.val (ix2 r n) = ∑ k : Fin 1024, term m c g r d ⟨t.val % 12 * 1024 + k.val, by omega⟩ := by
  rw [stepAt_eq]
  unfold stepBlock
  refine Finset.sum_congr rfl fun k _ => ?_
  unfold actBlock weightBlock term
  have e0 := read_h m c t r k g hg ⟨t.val % 12 * 1024 + k.val, by omega⟩ (by dsimp only; omega)
  have e1 := read_hs m c t r (⟨k.val / 32, by omega⟩ : Fin 128) (by dsimp only; omega) g hg
    (⟨(t.val % 12 * 1024 + k.val) / 32, by omega⟩ : Fin 384) (by dsimp only; omega)
  have e2 := read_w m c t k n ⟨t.val % 12 * 1024 + k.val, by omega⟩ (by dsimp only; omega) d hd
  have e3 := read_ws m c t (⟨k.val / 32, by omega⟩ : Fin 32) n
    (⟨(t.val % 12 * 1024 + k.val) / 32, by omega⟩ : Fin 384) (by dsimp only; omega) d hd
  exact congrArg₂ (· * ·) (congrArg₂ (· * ·) e0 ((congrArg scaleOf e1).trans (hn.act c _)))
    (congrArg₂ (· * ·) e2 ((congrArg scaleOf e3).trans (hn.wgt c _)))

/-- The kernel's result at row `1024·g + r` and column `d`. -/
theorem kernel_value (hn : Normal m) (c : Dev nD) (g : Fin 6) (r : Fin 1024) (i : Fin 6144) (hi : i.val = 1024 * g.val + r.val)
    (d : Fin 4096) :
    Cert.DownIdeal.Value.G5 m c (ix2 i d)
      = ((show EReal from m ((c : Thread nD τ).loc main_arg4) (ix3 g r d)) + ∑ f : Fin 12288, term m c g r d f : EReal) := by
  have hq : Cert.DownIdeal.Value.run5Of (ix2 i d) = 4 * g.val + d.val / 1024 := by
    show 4 * (i.val / 1024 - 0) + 1 * (d.val / 1024 - 0) = _
    omega
  have hN : cfg0.N = 288 := N_0
  have hl : Cert.DownIdeal.Value.loc5Of (ix2 i d) = ix2 r (⟨d.val % 1024, by omega⟩ : Fin 1024) := by
    funext a
    match a with
    | ⟨0, _⟩ => exact Fin.ext (by show i.val % 1024 = r.val; omega)
    | ⟨1, _⟩ => rfl
  rw [G5_eq m c (ix2 i d) (by rw [hq, hN]; omega), hl]
  refine congrArg₂ (· + ·) ?_ ?_
  · exact read_res m c _ r _ g (by dsimp only; rw [hq]; omega) d (by dsimp only; rw [hq]; omega)
  · rw [hq, Finset.sum_range, Fin.sum_univ_tiles 12 1024 rfl]
    refine Finset.sum_congr rfl fun n _ => ?_
    have hs := step_value m hn c ⟨12 * (4 * g.val + d.val / 1024) + n.val, by rw [hN]; omega⟩ r (⟨d.val % 1024, by omega⟩ : Fin 1024) g
      (by dsimp only; omega) d (by dsimp only; omega)
    refine hs.trans (Finset.sum_congr rfl fun k _ => congrArg (term m c g r d) (Fin.ext ?_))
    dsimp only
    omega

/-- From equal arguments, none of whose scale bytes is 0 or 255, the two result arrays are equal. -/
theorem result_eq (hn : Normal m) (m' : (ℓ : Loc Cert.DownRefIdeal.nD Cert.DownRefIdeal.τ Cert.DownRefIdeal.sig) → Buf (Elt Ideal) ℓ) (c : Dev nD)
    (h0 : m' ((c.tc : Thread Cert.DownRefIdeal.nD Cert.DownRefIdeal.τ).loc Cert.DownRefIdeal.main_arg0) = m ((c.tc : Thread nD τ).loc main_arg0))
    (h1 : m' ((c.tc : Thread Cert.DownRefIdeal.nD Cert.DownRefIdeal.τ).loc Cert.DownRefIdeal.main_arg1) = m ((c.tc : Thread nD τ).loc main_arg1))
    (h2 : m' ((c.tc : Thread Cert.DownRefIdeal.nD Cert.DownRefIdeal.τ).loc Cert.DownRefIdeal.main_arg2) = m ((c.tc : Thread nD τ).loc main_arg2))
    (h3 : m' ((c.tc : Thread Cert.DownRefIdeal.nD Cert.DownRefIdeal.τ).loc Cert.DownRefIdeal.main_arg3) = m ((c.tc : Thread nD τ).loc main_arg3))
    (h4 : m' ((c.tc : Thread Cert.DownRefIdeal.nD Cert.DownRefIdeal.τ).loc Cert.DownRefIdeal.main_arg4) = m ((c.tc : Thread nD τ).loc main_arg4)) :
    (Cert.DownRefIdeal.Gen.dats m' 0 c).arrAt 5 Cert.DownRefIdeal.cfg0.N = Cert.DownIdeal.Value.G5 m c := by
  funext j
  obtain ⟨i, d, rfl⟩ : ∃ (i : Fin 6144) (d : Fin 4096), j = ix2 i d := ⟨j 0, j 1, by funext a; match a with | ⟨0, _⟩ => rfl | ⟨1, _⟩ => rfl⟩
  have hi : i.val = 1024 * (⟨i.val / 1024, by omega⟩ : Fin 6).val + (⟨i.val % 1024, by omega⟩ : Fin 1024).val := by dsimp only; omega
  refine (Cert.MxDownRef.result_apply m' c _ _ i hi d).trans (Eq.trans ?_ (kernel_value m hn c _ _ i hi d).symm)
  rw [h0, h1, h2, h3, h4]
  rfl

end Cert.MxDown

end
-- ==== Proof.RopeTables.lean ====
/-
  The two tables of the rotary embedding: what the kernel's call writes, what the reference computes, and their equality.
-/
module

public import proofs.«01_k».proof.Proof.Gen.RopeIdeal.Frame
public import proofs.«01_k».proof.Proof.Gen.RopeRefIdeal.Run
public import Idealize.ShloMosaic.Lib.Pipeline.Value
public import Idealize.ShloMosaic.Lib.Claim
public import Idealize.ShloMosaic.Lib.KernelVsHost
public import Idealize.ShloMosaic.Lib.ValueLayout

@[expose] public section

noncomputable section

namespace Cert.MxRope

open Idealize.ShloMosaic Idealize.ShloMosaic.ValueIdx Cert.RopeIdeal Cert.RopeIdeal.Gen Idealize.SL.Sem Idealize.ShloMosaic.TcCoe

variable (m : (ℓ : Loc nD τ sig) → Buf (Elt Ideal) ℓ)

/-- The frequency of a lane, the rounded constant as a real. -/
def freq (l : Fin 128) : Ideal .f32 := FloatOps.ofBits .f32 (Cert.RopeIdeal.lit0 l)

/-- The angle at a position and a lane. -/
def angle (p : BitVec 32) (l : Fin 128) : Ideal .f32 := FloatOps.mulf (FloatOps.sitofp .f32 p) (freq l)

/-! ## The kernel's call -/

/-- The body's angles. -/
theorem pay1_apply (x0 : Vec Ideal S1024x1 .i32) (x1 : Vec Ideal S1x128 .f32) (r : Fin 1024) (l : Fin 128) :
    k0_pay1 x0 x1 (ix2 r l) = FloatOps.mulf (FloatOps.sitofp .f32 (x0 (ix2 r (0 : Fin 1)))) (x1 (ix2 (0 : Fin 1) l)) := by
  unfold k0_pay1
  show FloatOps.mulf (broadcastTo S1024x128 _ _ _) (broadcastTo S1024x128 _ _ _) = _
  rw [broadcastTo_apply _ _ _ (ix2 r (0 : Fin 1)) (by intro a; match a with | ⟨0, _⟩ => rfl | ⟨1, _⟩ => rfl),
    broadcastTo_apply _ _ _ (ix2 (0 : Fin 1) l) (by intro a; match a with | ⟨0, _⟩ => rfl | ⟨1, _⟩ => rfl)]
  show FloatOps.mulf (FloatOps.sitofp .f32 (shapeCast S1024x1 x0 shapeCasts_S1024x1_S1024x1 (ix2 r (0 : Fin 1)))) _ = _
  rw [shapeCast_self]

/-- The lane counter is below 64 on the first half only. -/
theorem half_lt (l : Fin 128) (h : l.val < 64) : IntOp.cmpi .slt (BitVec.ofNat 32 l.val) 64#32 = 1#1 :=
  (by decide +kernel : ∀ l : Fin 128, l.val < 64 → IntOp.cmpi .slt (BitVec.ofNat 32 l.val) 64#32 = 1#1) l h
theorem half_ge (l : Fin 128) (h : ¬l.val < 64) : IntOp.cmpi .slt (BitVec.ofNat 32 l.val) 64#32 = 0#1 :=
  (by decide +kernel : ∀ l : Fin 128, ¬l.val < 64 → IntOp.cmpi .slt (BitVec.ofNat 32 l.val) 64#32 = 0#1) l h

/-- The body's second table: the sine, negated on the first half of the lanes. -/
theorem pay3_apply (x0 : Vec Ideal S1024x1 .i32) (x1 : Vec Ideal S1x128 .f32) (r : Fin 1024) (l : Fin 128) :
    k0_pay3 x0 x1 (ix2 r l) = if l.val < 64 then FloatOps.hostNegf (FloatOps.sin (k0_pay1 x0 x1 (ix2 r l)))
      else FloatOps.sin (k0_pay1 x0 x1 (ix2 r l)) := by
  unfold k0_pay3
  dsimp only
  rw [subf_zero_eq_hostNegf]
  have hi : iota .tc S1024x128 32 [1] iota_S1024x128_d1_w32 (ix2 r l) = BitVec.ofNat 32 l.val := by
    show BitVec.ofNat 32 (0 * 128 + l.val) = _
    rw [Nat.zero_mul, Nat.zero_add]
  show (if IntOp.cmpi .slt (iota .tc S1024x128 32 [1] iota_S1024x128_d1_w32 (ix2 r l)) 64#32 = 1#1 then _ else _) = _
  rw [hi]
  by_cases h : l.val < 64
  · rw [half_lt l h, if_pos rfl, if_pos h]; rfl
  · rw [half_ge l h, if_neg (by decide), if_neg h]; rfl

theorem out2_eq (x0 : Vec Ideal S1024x1 .i32) (x1 : Vec Ideal S1x128 .f32) : out0_2 x0 x1 = k0_pay2 x0 x1 := by
  have hz : (![0, 0] : Fin 2 → Nat) = fun _ => 0 := funext fun a => by fin_cases a <;> rfl
  unfold out0_2
  rw [View.canon_unit_zero hz, View.ld_unit_zero (S := S1024x1) hz, View.ld_unit_zero (S := S1x128) hz]

theorem out3_eq (x0 : Vec Ideal S1024x1 .i32) (x1 : Vec Ideal S1x128 .f32) : out0_3 x0 x1 = k0_pay3 x0 x1 := by
  have hz : (![0, 0] : Fin 2 → Nat) = fun _ => 0 := funext fun a => by fin_cases a <;> rfl
  unfold out0_3
  rw [View.canon_unit_zero hz, View.ld_unit_zero (S := S1024x1) hz, View.ld_unit_zero (S := S1x128) hz]

/-- The blocks that each window reads or writes at point `t`, decided over the grid; every point writes back. -/
theorem win_idx : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (cfg0.win 2).flush t = true ∧ (cfg0.win 3).flush t = true :=
  (by decide +kernel : ∀ t : Fin grid0.N, _)

/-- The run of the call, each table after it named, the positions unchanged. -/
theorem run_blocks (ρ : Dev nD → PrngReg) : θ_run defs (onTc (τ := τ) (main (F := Ideal))) ⟨m, fun _ => 0, ρ⟩ fun r => ∀ c : Dev nD,
      r.2.mem ((c : Thread nD τ).loc main_v2_0) = (dats m 0 c).arrAt 2 cfg0.N
      ∧ r.2.mem ((c : Thread nD τ).loc main_v2_1) = (dats m 0 c).arrAt 3 cfg0.N
      ∧ r.2.mem ((c : Thread nD τ).loc main_arg0) = m ((c : Thread nD τ).loc main_arg0) :=
  (θ_run defs _ _).mono (fun r h c => ⟨(h c).1 2, (h c).1 3,
      ((h c).2 main_arg0 (Pipeline.mem_restRefs_of main_arg0 (by decide) (by decide))).trans (V_main_arg0 m c)⟩)
    (run_main m ρ)

theorem idx_inj2 : ∀ t t' : Fin cfg0.N, win0_2.index t = win0_2.index t' → t = t' :=
  (by decide +kernel : ∀ t t' : Fin grid0.N, win0_2.index t = win0_2.index t' → t = t')

/-- Block `t` of the table of window 2, read back, is what point `t` wrote: no other point's block meets it. -/
theorem blocks2 (c : Dev nD) (t : Fin cfg0.N) (hf : (cfg0.win 2).flush t = true) :
    ((cfg0.win 2).blk t).view.read (Elt Ideal) ((dats m 0 c).arrAt 2 cfg0.N)
      = (cfg0.win 2).cut (grid0.coords t) (out0_2 (iblk m c 0 t) (iblk m c 1 t)) := by
  refine ((dats m 0 c).read_blk_arrAt_eq_flushed 2 (fun t t' _ _ hne => (cfg0.win 2).disjoint_blk fun h => hne (idx_inj2 t t' h))
    cfg0.N t t.isLt hf).trans ?_
  show (cfg0.win 2).cut (grid0.coords t) ((dats m 0 c).after 2 t) = _
  rw [after0_2]

theorem idx_inj3 : ∀ t t' : Fin cfg0.N, win0_3.index t = win0_3.index t' → t = t' :=
  (by decide +kernel : ∀ t t' : Fin grid0.N, win0_3.index t = win0_3.index t' → t = t')

/-- Block `t` of the table of window 3, read back, is what point `t` wrote: no other point's block meets it. -/
theorem blocks3 (c : Dev nD) (t : Fin cfg0.N) (hf : (cfg0.win 3).flush t = true) :
    ((cfg0.win 3).blk t).view.read (Elt Ideal) ((dats m 0 c).arrAt 3 cfg0.N)
      = (cfg0.win 3).cut (grid0.coords t) (out0_3 (iblk m c 0 t) (iblk m c 1 t)) := by
  refine ((dats m 0 c).read_blk_arrAt_eq_flushed 3 (fun t t' _ _ hne => (cfg0.win 3).disjoint_blk fun h => hne (idx_inj3 t t' h))
    cfg0.N t t.isLt hf).trans ?_
  show (cfg0.win 3).cut (grid0.coords t) ((dats m 0 c).after 3 t) = _
  rw [after0_3]

theorem entry_pos (c : Dev nD) : V m c main_v1
    = shapeCast S6144x1 (m ((c : Thread nD τ).loc main_arg0)) shapeCasts_S6x1024_S6144x1 := by
  show StableHlo.after _ _ _ = _
  simp only [hostOps0]
  after_results_simp
  rfl

theorem entry_freq (c : Dev nD) : V m c main_v0
    = broadcastInDim S1x128 ![1] bcast_S128_S1x128_1 (fun i : S128.Idx => (FloatOps.ofBits .f32 (Cert.RopeIdeal.lit0 (S128.rowMajor i)) : Ideal .f32)) := by
  show StableHlo.after _ _ _ = _
  simp only [hostOps0]
  after_results_simp
  rfl

/-- A block of positions, from the argument as launched. -/
theorem read_pos (c : Dev nD) (t : Fin cfg0.N) (r : Fin 1024) (g : Fin 6) (hg : g.val = t.val) :
    iblk m c 0 t (ix2 r (0 : Fin 1)) = m ((c : Thread nD τ).loc main_arg0) (ix2 g r) := by
  have hi := (win_idx t).1
  unfold iblk
  rw [View.read_apply]
  show V m c main_v1 _ = _
  rw [entry_pos]
  refine shapeCast_apply _ _ _ (ix2 g r) ((Shape.rowMajor_val_two _).trans (Eq.trans ?_ (Shape.rowMajor_val_two (d := ![6144, 1]) _).symm))
  show g.val * 1024 + r.val = (win0_0.index t 0 * 1024 + 1 * r.val) * 1 + (win0_0.index t 1 * 1 + 1 * 0)
  rw [hi.1, hi.2]; omega

/-- The frequencies' block. -/
theorem read_freq (c : Dev nD) (t : Fin cfg0.N) (l : Fin 128) :
    iblk m c 1 t (ix2 (0 : Fin 1) l) = freq l := by
  have hi := (win_idx t).2.1
  unfold iblk
  rw [View.read_apply]
  show V m c main_v0 _ = _
  rw [entry_freq]
  refine (broadcastInDim_apply _ _ _ _ (ix1 l) ?_).trans ?_
  · intro a
    match a with
    | ⟨0, _⟩ => show l.val = win0_1.index t 1 * 128 + 1 * l.val; rw [hi.2]; omega
  · unfold freq
    refine congrArg (fun k => (FloatOps.ofBits .f32 (Cert.RopeIdeal.lit0 k) : Ideal .f32)) (Fin.ext ?_)
    exact Shape.rowMajor_val_one _

/-- The angles that point `t` computes. -/
theorem angle_at (c : Dev nD) (t : Fin cfg0.N) (r : Fin 1024) (l : Fin 128) (g : Fin 6) (hg : g.val = t.val) :
    k0_pay1 (iblk m c 0 t) (iblk m c 1 t) (ix2 r l) = angle (m ((c : Thread nD τ).loc main_arg0) (ix2 g r)) l := by
  rw [pay1_apply, read_freq]
  unfold angle
  exact congrArg (fun p => FloatOps.mulf (FloatOps.sitofp (F := Ideal) .f32 p) (freq l)) (read_pos m c t r g hg)

/-- The kernel's first table: the cosine of the angle. -/
theorem cos_value (c : Dev nD) (g : Fin 6) (r : Fin 1024) (i : Fin 6144) (hi : i.val = 1024 * g.val + r.val) (l : Fin 128) :
    (dats m 0 c).arrAt 2 cfg0.N (ix2 i l) = FloatOps.cos (angle (m ((c : Thread nD τ).loc main_arg0) (ix2 g r)) l) := by
  let t : Fin cfg0.N := ⟨g.val, g.isLt⟩
  obtain ⟨-, -, hw, -, hf, -⟩ := win_idx t
  have h := congrFun (blocks2 m c t hf) (ix2 r l)
  rw [out2_eq, View.read_apply] at h
  refine Eq.trans (congrArg _ ?_) (h.trans ?_)
  · funext a
    match a with
    | ⟨0, _⟩ => exact Fin.ext (show i.val = win0_2.index t 0 * 1024 + 1 * r.val by rw [hw.1, hi]; show _ = g.val * 1024 + _; omega)
    | ⟨1, _⟩ => exact Fin.ext (show l.val = win0_2.index t 1 * 128 + 1 * l.val by rw [hw.2]; omega)
  · show FloatOps.cos (k0_pay1 (iblk m c 0 t) (iblk m c 1 t) (ix2 r l)) = _
    rw [angle_at m c t r l g rfl]

/-- The kernel's second table: the sine of the angle, negated on the first half of the lanes. -/
theorem sin_value (c : Dev nD) (g : Fin 6) (r : Fin 1024) (i : Fin 6144) (hi : i.val = 1024 * g.val + r.val) (l : Fin 128) :
    (dats m 0 c).arrAt 3 cfg0.N (ix2 i l) = if l.val < 64
      then FloatOps.hostNegf (FloatOps.sin (angle (m ((c : Thread nD τ).loc main_arg0) (ix2 g r)) l))
      else FloatOps.sin (angle (m ((c : Thread nD τ).loc main_arg0) (ix2 g r)) l) := by
  let t : Fin cfg0.N := ⟨g.val, g.isLt⟩
  obtain ⟨-, -, -, hw, -, hf⟩ := win_idx t
  have h := congrFun (blocks3 m c t hf) (ix2 r l)
  rw [out3_eq, View.read_apply] at h
  refine Eq.trans (congrArg _ ?_) (h.trans ?_)
  · funext a
    match a with
    | ⟨0, _⟩ => exact Fin.ext (show i.val = win0_3.index t 0 * 1024 + 1 * r.val by rw [hw.1, hi]; show _ = g.val * 1024 + _; omega)
    | ⟨1, _⟩ => exact Fin.ext (show l.val = win0_3.index t 1 * 128 + 1 * l.val by rw [hw.2]; omega)
  · show k0_pay3 (iblk m c 0 t) (iblk m c 1 t) (ix2 r l) = _
    rw [pay3_apply, angle_at m c t r l g rfl]

/-! ## The reference -/

/-- The frequencies repeat after 64 lanes: the kernel's 128 constants are the reference's 64, twice. -/
theorem lit_eq (l : Fin 128) : Cert.RopeIdeal.lit0 l = Cert.RopeRefIdeal.lit0 ⟨l.val % 64, Nat.mod_lt _ (by decide)⟩ :=
  (by decide +kernel : ∀ l : Fin 128, Cert.RopeIdeal.lit0 l = Cert.RopeRefIdeal.lit0 ⟨l.val % 64, Nat.mod_lt _ (by decide)⟩) l

end Cert.MxRope

namespace Cert.MxRopeRef

open Idealize.ShloMosaic Idealize.ShloMosaic.ValueIdx Cert.RopeRefIdeal Cert.RopeRefIdeal.Gen Idealize.SL.Sem Idealize.ShloMosaic.TcCoe Cert.MxRope

/-- The reference's angles. -/
def theta (p : Vec Ideal S6x1024 .i32) : FVec Ideal S6x1024x64 .f32 :=
  mulf (broadcastInDim S6x1024x64 ![0, 1, 2] bcast_S6x1024x1_S6x1024x64_0_1_2 (broadcastInDim S6x1024x1 ![0, 1] bcast_S6x1024_S6x1024x1_0_1 (sitofp .f32 p)))
    (broadcastInDim S6x1024x64 ![0, 1, 2] bcast_S1x1x64_S6x1024x64_0_1_2 (broadcastInDim S1x1x64 ![2] bcast_S64_S1x1x64_2 ((fun i => FloatOps.ofBits .f32 (Cert.RopeRefIdeal.lit0 (S64.rowMajor i))))))

theorem theta_apply (p : Vec Ideal S6x1024 .i32) (g : Fin 6) (r : Fin 1024) (k : Fin 64) (l : Fin 128) (hl : l.val % 64 = k.val) :
    theta p (ix3 g r k) = angle (p (ix2 g r)) l := by
  unfold theta
  show FloatOps.mulf (broadcastInDim S6x1024x64 _ _ _ _) (broadcastInDim S6x1024x64 _ _ _ _) = _
  rw [broadcastInDim_apply _ _ _ _ (ix3 g r (0 : Fin 1)) (by intro a; match a with | ⟨0, _⟩ => rfl | ⟨1, _⟩ => rfl | ⟨2, _⟩ => rfl),
    broadcastInDim_apply _ _ _ _ (ix2 g r) (by intro a; match a with | ⟨0, _⟩ => rfl | ⟨1, _⟩ => rfl),
    broadcastInDim_apply _ _ _ _ (ix3 (0 : Fin 1) (0 : Fin 1) k) (by intro a; match a with | ⟨0, _⟩ => rfl | ⟨1, _⟩ => rfl | ⟨2, _⟩ => rfl),
    broadcastInDim_apply _ _ _ _ (ix1 k) (by intro a; match a with | ⟨0, _⟩ => rfl)]
  unfold angle freq
  rw [lit_eq]
  refine congrArg (fun w => FloatOps.mulf (FloatOps.sitofp (F := Ideal) .f32 (p (ix2 g r))) (FloatOps.ofBits .f32 (Cert.RopeRefIdeal.lit0 w))) (Fin.ext ?_)
  exact (Shape.rowMajor_val_one _).trans hl.symm

/-- Two tables of 64 lanes laid side by side and flattened, at a row and a lane of the first. -/
theorem lay_left (x y : FVec Ideal S6x1024x64 .f32) (g : Fin 6) (r : Fin 1024) (i : Fin 6144) (hi : i.val = 1024 * g.val + r.val)
    (l : Fin 128) (k : Fin 64) (hk : l.val = k.val) :
    shapeCast S6144x128 (concatenate S6x1024x128 2 [⟨S6x1024x64, x⟩, ⟨S6x1024x64, y⟩] concatenates_S6x1024x64_S6x1024x64_S6x1024x128_d2)
      shapeCasts_S6x1024x128_S6144x128 (ix2 i l) = x (ix3 g r k) := by
  rw [shapeCast_apply _ _ (ix2 i l) (ix3 g r l) (by
      rw [Shape.rowMajor_val_two, Shape.rowMajor_val_three]
      show (g.val * 1024 + r.val) * 128 + l.val = i.val * 128 + l.val
      omega)]
  exact concatenate_pair_apply_left (t := S6x1024x128) (s₁ := S6x1024x64) (s₂ := S6x1024x64) 2 x y
    concatenates_S6x1024x64_S6x1024x64_S6x1024x128_d2 (ix3 g r l) rfl (ix3 g r k) (fun b => match b with | ⟨0, _⟩ => rfl | ⟨1, _⟩ => rfl | ⟨2, _⟩ => hk.symm)

/-- The same at a lane of the second. -/
theorem lay_right (x y : FVec Ideal S6x1024x64 .f32) (g : Fin 6) (r : Fin 1024) (i : Fin 6144) (hi : i.val = 1024 * g.val + r.val)
    (l : Fin 128) (k : Fin 64) (hk : l.val = k.val + 64) :
    shapeCast S6144x128 (concatenate S6x1024x128 2 [⟨S6x1024x64, x⟩, ⟨S6x1024x64, y⟩] concatenates_S6x1024x64_S6x1024x64_S6x1024x128_d2)
      shapeCasts_S6x1024x128_S6144x128 (ix2 i l) = y (ix3 g r k) := by
  rw [shapeCast_apply _ _ (ix2 i l) (ix3 g r l) (by
      rw [Shape.rowMajor_val_two, Shape.rowMajor_val_three]
      show (g.val * 1024 + r.val) * 128 + l.val = i.val * 128 + l.val
      omega)]
  exact concatenate_pair_apply_right (t := S6x1024x128) (s₁ := S6x1024x64) (s₂ := S6x1024x64) 2 x y
    concatenates_S6x1024x64_S6x1024x64_S6x1024x128_d2 (ix3 g r l) rfl rfl (ix3 g r k)
    (fun b => match b with | ⟨0, _⟩ => fun _ => rfl | ⟨1, _⟩ => fun _ => rfl | ⟨2, _⟩ => fun h => absurd rfl h) hk.symm

/-- The reference's first table. -/
def cosTable (p : Vec Ideal S6x1024 .i32) : FVec Ideal S6144x128 .f32 :=
  shapeCast S6144x128 (concatenate S6x1024x128 2 [⟨S6x1024x64, Host.cos (theta p)⟩, ⟨S6x1024x64, Host.cos (theta p)⟩]
    concatenates_S6x1024x64_S6x1024x64_S6x1024x128_d2) shapeCasts_S6x1024x128_S6144x128

/-- The reference's second table. -/
def sinTable (p : Vec Ideal S6x1024 .i32) : FVec Ideal S6144x128 .f32 :=
  shapeCast S6144x128 (concatenate S6x1024x128 2 [⟨S6x1024x64, Host.negf (Host.sin (theta p))⟩, ⟨S6x1024x64, Host.sin (theta p)⟩]
    concatenates_S6x1024x64_S6x1024x64_S6x1024x128_d2) shapeCasts_S6x1024x128_S6144x128

theorem cosTable_apply (p : Vec Ideal S6x1024 .i32) (g : Fin 6) (r : Fin 1024) (i : Fin 6144) (hi : i.val = 1024 * g.val + r.val) (l : Fin 128) :
    cosTable p (ix2 i l) = FloatOps.cos (angle (p (ix2 g r)) l) := by
  unfold cosTable
  by_cases h : l.val < 64
  · rw [lay_left _ _ g r i hi l ⟨l.val, h⟩ rfl]
    show FloatOps.cos (theta p _) = _
    rw [theta_apply p g r _ l (Nat.mod_eq_of_lt h)]
  · rw [lay_right _ _ g r i hi l ⟨l.val - 64, by omega⟩ (by dsimp only; omega)]
    show FloatOps.cos (theta p _) = _
    rw [theta_apply p g r _ l (by dsimp only; omega)]

theorem sinTable_apply (p : Vec Ideal S6x1024 .i32) (g : Fin 6) (r : Fin 1024) (i : Fin 6144) (hi : i.val = 1024 * g.val + r.val) (l : Fin 128) :
    sinTable p (ix2 i l) = if l.val < 64 then FloatOps.hostNegf (FloatOps.sin (angle (p (ix2 g r)) l))
      else FloatOps.sin (angle (p (ix2 g r)) l) := by
  unfold sinTable
  by_cases h : l.val < 64
  · rw [lay_left _ _ g r i hi l ⟨l.val, h⟩ rfl, if_pos h]
    show FloatOps.hostNegf (FloatOps.sin (theta p _)) = _
    rw [theta_apply p g r _ l (Nat.mod_eq_of_lt h)]
  · rw [lay_right _ _ g r i hi l ⟨l.val - 64, by omega⟩ (by dsimp only; omega), if_neg h]
    show FloatOps.sin (theta p _) = _
    rw [theta_apply p g r _ l (by dsimp only; omega)]

end Cert.MxRopeRef

namespace Cert.MxRope

open Idealize.ShloMosaic Idealize.ShloMosaic.ValueIdx Cert.RopeIdeal Cert.RopeIdeal.Gen Idealize.SL.Sem Idealize.ShloMosaic.TcCoe

variable (m : (ℓ : Loc nD τ sig) → Buf (Elt Ideal) ℓ)

/-! ## Equality -/

theorem cos_eq (c : Dev nD) : (dats m 0 c).arrAt 2 cfg0.N = Cert.MxRopeRef.cosTable (m ((c : Thread nD τ).loc main_arg0)) := by
  funext j
  obtain ⟨i, l, rfl⟩ : ∃ (i : Fin 6144) (l : Fin 128), j = ix2 i l := ⟨j 0, j 1, by funext a; match a with | ⟨0, _⟩ => rfl | ⟨1, _⟩ => rfl⟩
  have hi : i.val = 1024 * (⟨i.val / 1024, by omega⟩ : Fin 6).val + (⟨i.val % 1024, by omega⟩ : Fin 1024).val := by dsimp only; omega
  exact (cos_value m c _ _ i hi l).trans (Cert.MxRopeRef.cosTable_apply _ _ _ i hi l).symm

theorem sin_eq (c : Dev nD) : (dats m 0 c).arrAt 3 cfg0.N = Cert.MxRopeRef.sinTable (m ((c : Thread nD τ).loc main_arg0)) := by
  funext j
  obtain ⟨i, l, rfl⟩ : ∃ (i : Fin 6144) (l : Fin 128), j = ix2 i l := ⟨j 0, j 1, by funext a; match a with | ⟨0, _⟩ => rfl | ⟨1, _⟩ => rfl⟩
  have hi : i.val = 1024 * (⟨i.val / 1024, by omega⟩ : Fin 6).val + (⟨i.val % 1024, by omega⟩ : Fin 1024).val := by dsimp only; omega
  exact (sin_value m c _ _ i hi l).trans (Cert.MxRopeRef.sinTable_apply _ _ _ i hi l).symm

end Cert.MxRope

end
-- ==== Proof.QkvBlock.lean ====
/-
  What one grid point of the projection computes: the product with the dequantised weight block, then the rotation of
  each head of 128 columns, or the plain product where the block holds values and not queries or keys.
-/
module

public import proofs.«01_k».proof.Proof.Gen.QkvIdeal.Frame
public import Idealize.ShloMosaic.Lib.Pipeline.Value
public import Idealize.ShloMosaic.Lib.Ring
public import Idealize.ShloMosaic.Lib.KernelVsHost
public import Idealize.ShloMosaic.Lib.IdealHost
public import proofs.«01_k».proof.Proof.Bits
public import proofs.«01_k».proof.Proof.WeightTile
public import proofs.«01_k».proof.Proof.Block

@[expose] public section

noncomputable section

namespace Cert.MxQkv

open Idealize.ShloMosaic Idealize.ShloMosaic.ValueIdx Cert.QkvIdeal Cert.QkvIdeal.Gen Idealize.SL.Sem
open Cert.MxDown (half_of_word scaleOf hz)

theorem word_halves (ws : S128x512.Idx → BitVec 8) (h : S1024x512.Bitcasts 32 S2048x512 16) (g : Fin 128) (q : Fin 16) (c : Fin 512) :
    bitcast S2048x512 16 (shapeCast S1024x512 (broadcastTo S128x8x512 (shapeCast S128x1x512
      (ori (shli (extui 32 ws natLt_8_32) (broadcast S128x512 7#32))
        (shli (shli (extui 32 ws natLt_8_32) (broadcast S128x512 7#32)) (broadcast S128x512 16#32)))
      shapeCasts_S128x512_S128x1x512) broadcasts_S128x1x512_S128x8x512) shapeCasts_S128x8x512_S1024x512) h
      (ix2 (⟨16 * g.val + q.val, by omega⟩ : Fin 2048) c) = (ws (ix2 g c)).setWidth 16 <<< (7 : Nat) := by
  rw [← half_of_word (ws (ix2 g c)) ⟨q.val % 2, by omega⟩]
  apply BitVec.eq_of_getLsbD_eq
  intro i hi
  rw [Cert.MxDown.bitcast_bit (R := 1024) (r := 2048) (n := 512) _ h _ c i hi (by decide) ⟨8 * g.val + q.val / 2, by omega⟩
    (by show 8 * g.val + q.val / 2 = ((16 * g.val + q.val) * 16 + i) / 32; omega),
    shapeCast_apply _ _ _ (ix3 g (⟨q.val / 2, by omega⟩ : Fin 8) c) (by
      rw [Shape.rowMajor_val_two, Shape.rowMajor_val_three]
      show (g.val * 8 + q.val / 2) * 512 + c.val = (8 * g.val + q.val / 2) * 512 + c.val
      omega),
    broadcastTo_apply _ _ _ (ix3 g (0 : Fin 1) c) (by
      intro a
      match a with
      | ⟨0, _⟩ => rfl
      | ⟨1, _⟩ => rfl
      | ⟨2, _⟩ => rfl),
    shapeCast_apply _ _ _ (ix2 g c) (by
      rw [Shape.rowMajor_val_two, Shape.rowMajor_val_three]
      show g.val * 512 + c.val = (g.val * 1 + 0) * 512 + c.val
      omega),
    BitVec.getLsbD_extractLsb']
  simp only [hi, decide_true, Bool.true_and]
  show (((ws (ix2 g c)).setWidth 32 <<< (7 : Nat)) ||| (((ws (ix2 g c)).setWidth 32 <<< (7 : Nat)) <<< (16 : Nat))).getLsbD _ = _
  congr 1
  omega

/-- The product of a block of rows with the dequantised weight block, at a row and a column. -/
def dot (x : Vec Ideal S512x4096 .bf16) (w : Vec Ideal S4096x512 .fp8e4m3) (ws : Vec Ideal S128x512 .i8) (r n : Fin 512) : EReal :=
  ∑ k : Fin 4096, x (ix2 r k) * (w (ix2 k n) * scaleOf (ws (ix2 (⟨k.val / 32, by omega⟩ : Fin 128) n)))

theorem pay6_apply (w : Vec Ideal S4096x512 .fp8e4m3) (ws : Vec Ideal S128x512 .i8) (x : Vec Ideal S512x4096 .bf16) (r n : Fin 512) :
    k0_pay6 w ws x (ix2 r n) = dot x w ws r n := by
  unfold k0_pay6 dot
  simp only [shapeCast_self, matmul]
  rw [Ideal.matmul_constant_zero_apply,
    ← Equiv.sum_comp (contrEquiv1 dot_S512x4096_S4096x512_S512x512_1_0_0_1_n_n 4096 rfl rfl).symm]
  refine Finset.sum_congr rfl fun k _ => ?_
  refine congrArg₂ (· * ·) (congrArg x ?_) (Eq.trans (congrArg _ (a₂ := ix2 k n) ?_) ?_)
  · funext a; match a with | ⟨0, _⟩ => rfl | ⟨1, _⟩ => rfl
  · funext a; match a with | ⟨0, _⟩ => rfl | ⟨1, _⟩ => rfl
  rw [shapeCast_apply _ _ (ix2 k n) (ix4 (⟨k.val / 32, by omega⟩ : Fin 128) (⟨k.val % 32 / 16, by omega⟩ : Fin 2) (⟨k.val % 16, by omega⟩ : Fin 16) n) (by
      rw [Shape.rowMajor_val_two, Shape.rowMajor_val_four]
      show ((k.val / 32 * 2 + k.val % 32 / 16) * 16 + k.val % 16) * 512 + n.val = k.val * 512 + n.val
      omega)]
  show ((shapeCast S128x2x16x512 _ _ _ * broadcastTo S128x2x16x512 _ _ _ : EReal)) = _
  rw [shapeCast_apply _ shapeCasts_S4096x512_S128x2x16x512 _ (ix2 k n) (by
      rw [Shape.rowMajor_val_two, Shape.rowMajor_val_four]
      show k.val * 512 + n.val = ((k.val / 32 * 2 + k.val % 32 / 16) * 16 + k.val % 16) * 512 + n.val
      omega),
    broadcastTo_apply _ _ _ (ix4 (⟨k.val / 32, by omega⟩ : Fin 128) (0 : Fin 1) (⟨k.val % 16, by omega⟩ : Fin 16) n) (by
      intro a
      match a with
      | ⟨0, _⟩ => rfl
      | ⟨1, _⟩ => rfl
      | ⟨2, _⟩ => rfl
      | ⟨3, _⟩ => rfl),
    shapeCast_apply _ _ _ (ix2 (⟨16 * (k.val / 32) + k.val % 16, by omega⟩ : Fin 2048) n) (by
      rw [Shape.rowMajor_val_two, Shape.rowMajor_val_four]
      show (16 * (k.val / 32) + k.val % 16) * 512 + n.val = ((k.val / 32 * 1 + 0) * 16 + k.val % 16) * 512 + n.val
      omega)]
  show (_ * Ideal.ofBits .bf16 (bitcast S2048x512 16 _ _ _) : EReal) = _
  rw [word_halves ws _ (⟨k.val / 32, by omega⟩ : Fin 128) ⟨k.val % 16, by omega⟩ n]
  rfl

/-- The column 64 lanes away within the head of 128 columns that holds column `n`. -/
def partner (n : Fin 512) : Fin 512 := ⟨128 * (n.val / 128) + (n.val % 128 + 64) % 128, by omega⟩

/-- The lane of a column within its head. -/
def lane (n : Fin 512) : Fin 128 := ⟨n.val % 128, by omega⟩

/-- The block that a point writes: with `v`, whether it holds values, the plain product, else each head rotated. -/
def outBlock (v : BitVec 1) (x : Vec Ideal S512x4096 .bf16) (w : Vec Ideal S4096x512 .fp8e4m3) (ws : Vec Ideal S128x512 .i8)
    (cs sn : Vec Ideal S512x128 .f32) : Vec Ideal S512x512 .bf16 := fun j =>
  (dot x w ws (j 0) (j 1) * (if v = 1#1 then 1 else cs (ix2 (j 0) (lane (j 1))))
    + dot x w ws (j 0) (partner (j 1)) * (if v = 1#1 then 0 else sn (ix2 (j 0) (lane (j 1)))) : EReal)

/-- Whether the point's columns are values. -/
def isV (i : grid0.Coords) : BitVec 1 := Scalar.cmpi .sge (BitVec.ofNat 32 (i 1).val) 10#32

theorem pay7_apply (i : grid0.Coords) (cs : Vec Ideal S512x128 .f32) (j : S512x128.Idx) :
    k0_pay7 i cs j = (if isV i = 1#1 then 1 else cs j : EReal) := by
  unfold k0_pay7
  simp only [shapeCast_self]
  show (if isV i = 1#1 then _ else _ : S512x128.Idx → EReal) j = _
  split
  · exact Ideal.ofBits_one_f32
  · rfl

theorem pay8_apply (i : grid0.Coords) (sn : Vec Ideal S512x128 .f32) (j : S512x128.Idx) :
    k0_pay8 i sn j = (if isV i = 1#1 then 0 else sn j : EReal) := by
  unfold k0_pay8
  simp only [shapeCast_self]
  show (if isV i = 1#1 then _ else _ : S512x128.Idx → EReal) j = _
  split
  · exact Ideal.ofBits_zero_f32
  · rfl

/-- One head: a slice of 128 columns at `off`, rotated. -/
theorem head_apply (d : FVec Ideal S512x512 .f32) (cs sn : FVec Ideal S512x128 .f32) (off : Nat)
    (h : S512x512.Slices ![0, off] S512x128) (hr : S512x128.Rotates 1 none) (r : Fin 512) (l : Fin 128) (n n' : Fin 512)
    (hn : n.val = off + l.val) (hn' : n'.val = off + (l.val + 64) % 128) :
    addf (mulf (extractStridedSlice S512x128 ![0, off] d h) cs)
        (mulf (dynamicRotate 1 64#32 none (extractStridedSlice S512x128 ![0, off] d h) hr) sn) (ix2 r l)
      = (d (ix2 r n) * cs (ix2 r l) + d (ix2 r n') * sn (ix2 r l) : EReal) := by
  have e : ∀ (l' : Fin 128) (n : Fin 512), n.val = off + l'.val → extractStridedSlice S512x128 ![0, off] d h (ix2 r l') = d (ix2 r n) := by
    intro l' n hn
    refine extractStridedSlice_apply _ _ h _ (ix2 r n) ?_
    intro a
    match a with
    | ⟨0, _⟩ => show r.val = 0 + r.val; omega
    | ⟨1, _⟩ => exact hn
  show (extractStridedSlice S512x128 ![0, off] d h (ix2 r l) * cs (ix2 r l)
    + dynamicRotate 1 64#32 none (extractStridedSlice S512x128 ![0, off] d h) hr (ix2 r l) * sn (ix2 r l) : EReal) = _
  rw [dynamicRotate_apply 1 64#32 _ hr (ix2 r l) (ix2 r (⟨(l.val + 64) % 128, by omega⟩ : Fin 128)) (by
      intro b
      match b with
      | ⟨0, _⟩ => rfl
      | ⟨1, _⟩ => show (l.val + 64) % 128 = (l.val + 128 - 64 % 128) % 128; omega),
    e l n hn, e _ n' hn']

/-- One head's columns of the block. -/
theorem head_block (i : grid0.Coords) (x : Vec Ideal S512x4096 .bf16) (w : Vec Ideal S4096x512 .fp8e4m3) (ws : Vec Ideal S128x512 .i8)
    (cs sn : Vec Ideal S512x128 .f32) (off : Nat) (hoff : off % 128 = 0)
    (h : S512x512.Slices ![0, off] S512x128) (hr : S512x128.Rotates 1 none)
    (inb : ∀ a, (![0, off] : Fin 2 → Nat) a + S512x128.size a ≤ S512x512.size a) (y : S512x128.Idx) :
    addf (mulf (extractStridedSlice S512x128 ![0, off] (k0_pay6 w ws x) h) (k0_pay7 i cs))
        (mulf (dynamicRotate 1 64#32 none (extractStridedSlice S512x128 ![0, off] (k0_pay6 w ws x) h) hr) (k0_pay8 i sn)) y
      = outBlock (isV i) x w ws cs sn ((Rect.unit (s := S512x512) ![0, off] S512x128.size inb).emb y) := by
  obtain ⟨r, l, rfl⟩ : ∃ (r : Fin 512) (l : Fin 128), y = ix2 r l := ⟨y 0, y 1, eq_ix2 y⟩
  have hb : off + 128 ≤ 512 := inb 1
  have he : (Rect.unit (s := S512x512) ![0, off] S512x128.size inb).emb (ix2 r l) = ix2 r (⟨off + l.val, by omega⟩ : Fin 512) := by
    funext a
    match a with
    | ⟨0, _⟩ => exact Fin.ext (show 0 + 1 * r.val = r.val by omega)
    | ⟨1, _⟩ => exact Fin.ext (show off + 1 * l.val = off + l.val by omega)
  rw [he, head_apply _ _ _ off h hr r l (⟨off + l.val, by omega⟩ : Fin 512) (partner ⟨off + l.val, by omega⟩) rfl
    (by show 128 * ((off + l.val) / 128) + ((off + l.val) % 128 + 64) % 128 = _; omega),
    pay6_apply, pay6_apply, pay7_apply, pay8_apply]
  have hl : lane (⟨off + l.val, by omega⟩ : Fin 512) = l := Fin.ext (show (off + l.val) % 128 = l.val by omega)
  unfold outBlock
  show _ = (dot x w ws r _ * (if isV i = 1#1 then 1 else cs (ix2 r (lane _))) + dot x w ws r _ * (if isV i = 1#1 then 0 else sn (ix2 r (lane _))) : EReal)
  rw [hl]

/-- The four heads of a point, in the order of their columns. -/
theorem pay1_head (i : grid0.Coords) (x : Vec Ideal S512x4096 .bf16) (w : Vec Ideal S4096x512 .fp8e4m3) (ws : Vec Ideal S128x512 .i8)
    (cs sn : Vec Ideal S512x128 .f32) (inb : ∀ a, (![0, 0] : Fin 2 → Nat) a + S512x128.size a ≤ S512x512.size a) (y : S512x128.Idx) :
    k0_pay1 (k0_pay10 i w ws x cs) (k0_pay11 i w ws x sn) y
      = outBlock (isV i) x w ws cs sn ((Rect.unit (s := S512x512) ![0, 0] S512x128.size inb).emb y) :=
  head_block i x w ws cs sn 0 rfl slices_S512x512_o0_0_S512x128 rotates_S512x128_d1 inb y

theorem pay2_head (i : grid0.Coords) (x : Vec Ideal S512x4096 .bf16) (w : Vec Ideal S4096x512 .fp8e4m3) (ws : Vec Ideal S128x512 .i8)
    (cs sn : Vec Ideal S512x128 .f32) (inb : ∀ a, (![0, 128] : Fin 2 → Nat) a + S512x128.size a ≤ S512x512.size a) (y : S512x128.Idx) :
    k0_pay2 (k0_pay6 w ws x) (k0_pay7 i cs) (k0_pay8 i sn) y
      = outBlock (isV i) x w ws cs sn ((Rect.unit (s := S512x512) ![0, 128] S512x128.size inb).emb y) :=
  head_block i x w ws cs sn 128 rfl slices_S512x512_o0_128_S512x128 rotates_S512x128_d1 inb y

theorem pay3_head (i : grid0.Coords) (x : Vec Ideal S512x4096 .bf16) (w : Vec Ideal S4096x512 .fp8e4m3) (ws : Vec Ideal S128x512 .i8)
    (cs sn : Vec Ideal S512x128 .f32) (inb : ∀ a, (![0, 256] : Fin 2 → Nat) a + S512x128.size a ≤ S512x512.size a) (y : S512x128.Idx) :
    k0_pay3 (k0_pay6 w ws x) (k0_pay7 i cs) (k0_pay8 i sn) y
      = outBlock (isV i) x w ws cs sn ((Rect.unit (s := S512x512) ![0, 256] S512x128.size inb).emb y) :=
  head_block i x w ws cs sn 256 rfl slices_S512x512_o0_256_S512x128 rotates_S512x128_d1 inb y

theorem pay4_head (i : grid0.Coords) (x : Vec Ideal S512x4096 .bf16) (w : Vec Ideal S4096x512 .fp8e4m3) (ws : Vec Ideal S128x512 .i8)
    (cs sn : Vec Ideal S512x128 .f32) (inb : ∀ a, (![0, 384] : Fin 2 → Nat) a + S512x128.size a ≤ S512x512.size a) (y : S512x128.Idx) :
    k0_pay4 (k0_pay6 w ws x) (k0_pay7 i cs) (k0_pay8 i sn) y
      = outBlock (isV i) x w ws cs sn ((Rect.unit (s := S512x512) ![0, 384] S512x128.size inb).emb y) :=
  head_block i x w ws cs sn 384 rfl slices_S512x512_o0_384_S512x128 rotates_S512x128_d1 inb y

/-- The four stores of a point together. -/
theorem heads_ok (i : grid0.Coords) (x : Vec Ideal S512x4096 .bf16) (w : Vec Ideal S4096x512 .fp8e4m3) (ws : Vec Ideal S128x512 .i8)
    (cs sn : Vec Ideal S512x128 .f32) (L : List (View.Piece (Elt Ideal) S512x512 .bf16))
    (hc : View.Piece.tiledL L S512x128.size = true)
    (hL : L = [⟨Rect.unit (s := S512x512) ![0, 384] S512x128.size inb_S512x512_S512x128_0_384, k0_pay4 (k0_pay6 w ws x) (k0_pay7 i cs) (k0_pay8 i sn)⟩,
      ⟨Rect.unit (s := S512x512) ![0, 256] S512x128.size inb_S512x512_S512x128_0_256, k0_pay3 (k0_pay6 w ws x) (k0_pay7 i cs) (k0_pay8 i sn)⟩,
      ⟨Rect.unit (s := S512x512) ![0, 128] S512x128.size inb_S512x512_S512x128_0_128, k0_pay2 (k0_pay6 w ws x) (k0_pay7 i cs) (k0_pay8 i sn)⟩,
      ⟨Rect.unit (s := S512x512) ![0, 0] S512x128.size inb_S512x512_S512x128_0_0, k0_pay1 (k0_pay10 i w ws x cs) (k0_pay11 i w ws x sn)⟩]) :
    View.canon L = outBlock (isV i) x w ws cs sn := by
  refine funext fun y => View.canon_apply_of_pieces (outBlock (isV i) x w ws cs sn) L ?_ y (View.cover_of_tiledL L S512x128.size hc y)
  subst hL
  exact List.forall_mem_cons.2 ⟨pay4_head i x w ws cs sn inb_S512x512_S512x128_0_384, List.forall_mem_cons.2 ⟨pay3_head i x w ws cs sn inb_S512x512_S512x128_0_256,
    List.forall_mem_cons.2 ⟨pay2_head i x w ws cs sn inb_S512x512_S512x128_0_128, List.forall_mem_cons.2 ⟨pay1_head i x w ws cs sn inb_S512x512_S512x128_0_0, List.forall_mem_nil _⟩⟩⟩⟩

theorem readAt_whole {e : EltTy} {d0 d1 : Nat} {arg : Memref sig .tc .vmem ⟨2, ![d0, d1]⟩ e} (h : arg.IsWhole) (x : Vec Ideal ⟨2, ![d0, d1]⟩ e)
    (inb : ∀ a, (![0, 0] : Fin 2 → Nat) a + (⟨2, ![d0, d1]⟩ : Shape).size a ≤ (⟨2, ![d0, d1]⟩ : Shape).size a) :
    View.readAt (Elt Ideal) arg.view (Rect.unit (s := ⟨2, ![d0, d1]⟩) ![0, 0] (⟨2, ![d0, d1]⟩ : Shape).size inb).toLoadRect (h.unread x) = x := by
  rw [View.readAt_eq_ld, h.read_unread, View.ld_unit_zero (S := ⟨2, ![d0, d1]⟩) hz]

variable (c : Dev nD) (i : grid0.Coords) (arg2 : Memref sig .tc .vmem S512x4096 .bf16) (harg2 : arg2.IsWhole) (arg3 : Memref sig .tc .vmem S4096x512 .fp8e4m3) (harg3 : arg3.IsWhole) (arg4 : Memref sig .tc .vmem S128x512 .i8) (harg4 : arg4.IsWhole) (arg5 : Memref sig .tc .vmem S512x128 .f32) (harg5 : arg5.IsWhole) (arg6 : Memref sig .tc .vmem S512x128 .f32) (harg6 : arg6.IsWhole) (arg7 : Memref sig .tc .vmem S512x512 .bf16) (harg7 : arg7.IsWhole) (arg8 : Memref sig .tc .vmem S512x4096 .bf16) (harg8 : arg8.IsWhole)
  (x0 : Vec Ideal S512x4096 .bf16) (x1 : Vec Ideal S4096x512 .fp8e4m3) (x2 : Vec Ideal S128x512 .i8) (x3 : Vec Ideal S512x128 .f32) (x4 : Vec Ideal S512x128 .f32)

/-- The scratch after the first point of a row of blocks: the block of rows. -/
theorem sout_A (hc0 : cond0_0 i) :
    sout0_A_0 c i arg2 harg2 arg3 harg3 arg4 harg4 arg5 harg5 arg6 harg6 arg7 harg7 arg8 harg8 hc0 x0 x1 x2 x3 x4 = x0 := by
  unfold sout0_A_0
  rw [View.read_writes_junk_eq_canon]
  unfold kernelRun0_A
  dsimp only
  sl_unfold_words
  refine (View.canon_unit_zero hz _ _).trans ?_
  unfold k0_pay5
  simp only [shapeCast_self]
  exact readAt_whole harg2 _ _

/-- The block that a later point of a row writes. -/
theorem out_B (hc0 : ¬cond0_0 i) (xs0 : Vec Ideal S512x4096 .bf16) :
    out0_B_5 c i arg2 harg2 arg3 harg3 arg4 harg4 arg5 harg5 arg6 harg6 arg7 harg7 arg8 harg8 hc0 x0 x1 x2 x3 x4 xs0
      = outBlock (isV i) xs0 x1 x2 x3 x4 := by
  unfold out0_B_5
  rw [View.read_writes_junk_eq_canon]
  unfold kernelRun0_B
  dsimp only
  sl_unfold_words
  refine (heads_ok i (View.readAt (Elt Ideal) arg8.view (Rect.unit (s := S512x4096) ![0, 0] S512x4096.size inb_S512x4096_S512x4096_0_0).toLoadRect (harg8.unread xs0))
    (View.readAt (Elt Ideal) arg3.view (Rect.unit (s := S4096x512) ![0, 0] S4096x512.size inb_S4096x512_S4096x512_0_0).toLoadRect (harg3.unread x1))
    (View.readAt (Elt Ideal) arg4.view (Rect.unit (s := S128x512) ![0, 0] S128x512.size inb_S128x512_S128x512_0_0).toLoadRect (harg4.unread x2))
    (View.readAt (Elt Ideal) arg5.view (Rect.unit (s := S512x128) ![0, 0] S512x128.size inb_S512x128_S512x128_0_0).toLoadRect (harg5.unread x3))
    (View.readAt (Elt Ideal) arg6.view (Rect.unit (s := S512x128) ![0, 0] S512x128.size inb_S512x128_S512x128_0_0).toLoadRect (harg6.unread x4)) _ ?_ ?_).trans ?_
  · sl_kernel_rfl
  · sl_kernel_rfl
  · rw [readAt_whole harg8, readAt_whole harg3, readAt_whole harg4, readAt_whole harg5, readAt_whole harg6]

/-- The block that the first point of a row writes. -/
theorem out_A (hc0 : cond0_0 i) :
    out0_A_5 c i arg2 harg2 arg3 harg3 arg4 harg4 arg5 harg5 arg6 harg6 arg7 harg7 arg8 harg8 hc0 x0 x1 x2 x3 x4
      = outBlock (isV i) x0 x1 x2 x3 x4 := by
  unfold out0_A_5
  rw [View.read_writes_junk_eq_canon]
  unfold kernelRun0_A
  dsimp only
  sl_unfold_words
  refine (heads_ok i (arg8.view.readCov [⟨Rect.unit (s := S512x4096) ![0, 0] S512x4096.size inb_S512x4096_S512x4096_0_0, k0_pay5 (View.readAt (Elt Ideal) arg2.view (Rect.unit (s := S512x4096) ![0, 0] S512x4096.size inb_S512x4096_S512x4096_0_0).toLoadRect (harg2.unread x0))⟩]
      (Rect.unit (s := S512x4096) ![0, 0] S512x4096.size inb_S512x4096_S512x4096_0_0).toLoadRect)
    (View.readAt (Elt Ideal) arg3.view (Rect.unit (s := S4096x512) ![0, 0] S4096x512.size inb_S4096x512_S4096x512_0_0).toLoadRect (harg3.unread x1))
    (View.readAt (Elt Ideal) arg4.view (Rect.unit (s := S128x512) ![0, 0] S128x512.size inb_S128x512_S128x512_0_0).toLoadRect (harg4.unread x2))
    (View.readAt (Elt Ideal) arg5.view (Rect.unit (s := S512x128) ![0, 0] S512x128.size inb_S512x128_S512x128_0_0).toLoadRect (harg5.unread x3))
    (View.readAt (Elt Ideal) arg6.view (Rect.unit (s := S512x128) ![0, 0] S512x128.size inb_S512x128_S512x128_0_0).toLoadRect (harg6.unread x4)) _ ?_ ?_).trans ?_
  · sl_kernel_rfl
  · sl_kernel_rfl
  · rw [View.readCov_unit_zero (S := S512x4096) _ hz, readAt_whole harg2, readAt_whole harg3, readAt_whole harg4, readAt_whole harg5, readAt_whole harg6]
    unfold k0_pay5
    simp only [shapeCast_self]

end Cert.MxQkv

end
-- ==== Proof.QkvReads.lean ====
/-
  What the projection's windows read: each block's element is an element of an argument, or a table's entry computed by
  the host code from the positions.
-/
module

public import proofs.«01_k».proof.Proof.Gen.QkvIdeal.Frame
public import Idealize.ShloMosaic.Lib.Pipeline.Value
public import Idealize.ShloMosaic.Lib.Claim
public import Idealize.ShloMosaic.Lib.KernelVsHost
public import Idealize.ShloMosaic.Lib.ValueLayout
public import proofs.«01_k».proof.Proof.RopeTables

@[expose] public section

noncomputable section

namespace Cert.MxQkv

open Idealize.ShloMosaic Idealize.ShloMosaic.ValueIdx Cert.QkvIdeal Cert.QkvIdeal.Gen Idealize.SL.Sem Idealize.ShloMosaic.TcCoe
open Cert.MxRope (half_lt half_ge)

variable (m : (ℓ : Loc nD τ sig) → Buf (Elt Ideal) ℓ)

/-- The frequency of a lane, the rounded constant as a real. -/
def freq (l : Fin 128) : Ideal .f32 := FloatOps.ofBits .f32 (Cert.QkvIdeal.lit0 l)

/-- The angle at a position and a lane. -/
def angle (p : BitVec 32) (l : Fin 128) : Ideal .f32 := FloatOps.mulf (FloatOps.sitofp .f32 p) (freq l)

/-- The blocks that each window reads or writes at point `t`, decided over the grid; every point writes back. -/
theorem win_idx : ∀ t : Fin cfg0.N,
    (win0_0.index t 0 = t.val / 12 ∧ win0_0.index t 1 = 0) ∧ (win0_1.index t 0 = 0 ∧ win0_1.index t 1 = t.val % 12)
    ∧ (win0_2.index t 0 = 0 ∧ win0_2.index t 1 = t.val % 12)
    ∧ (win0_3.index t 0 = t.val / 12 ∧ win0_3.index t 1 = 0) ∧ (win0_4.index t 0 = t.val / 12 ∧ win0_4.index t 1 = 0)
    ∧ (win0_5.index t 0 = t.val / 12 ∧ win0_5.index t 1 = t.val % 12)
    ∧ (cfg0.win 5).flush t = true ∧ (grid0.coords t 1).val = t.val % 12 :=
  (by decide +kernel : ∀ t : Fin grid0.N, _)

/-- The rows, flattened on the host. -/
theorem entry_x (c : Dev nD) : V m c main_v14
    = shapeCast S6144x4096 (m ((c : Thread nD τ).loc main_arg0)) shapeCasts_S6x1024x4096_S6144x4096 := by
  show StableHlo.after _ _ _ = _
  simp only [hostOps0, hostOps0_1, hostOps0_2, List.flatten_cons, List.flatten_nil, List.append_nil, List.cons_append, List.nil_append]
  after_results_simp
  rfl

/-- The host's angles: each position times each lane's frequency. -/
def theta (p : Vec Ideal S6x1024 .i32) : FVec Ideal S6144x128 .f32 :=
  mulf (broadcastInDim S6144x128 ![0, 1] bcast_S6144x1_S6144x128_0_1 (sitofp .f32 (shapeCast S6144x1 p shapeCasts_S6x1024_S6144x1)))
    (broadcastInDim S6144x128 ![0, 1] bcast_S1x128_S6144x128_0_1 (broadcastInDim S1x128 ![1] bcast_S128_S1x128_1
      (fun i : S128.Idx => (FloatOps.ofBits .f32 (Cert.QkvIdeal.lit0 (S128.rowMajor i)) : Ideal .f32))))

theorem entry_cos (c : Dev nD) : V m c main_v7 = Host.cos (theta (m ((c : Thread nD τ).loc main_arg3))) := by
  show StableHlo.after _ _ _ = _
  simp only [hostOps0, hostOps0_1, hostOps0_2, List.flatten_cons, List.flatten_nil, List.append_nil, List.cons_append, List.nil_append]
  after_results_simp
  rfl

theorem entry_sin (c : Dev nD) : V m c main_v13 = select (cmpi .slt (iotaInDim S6144x128 32 1) (broadcastInDim S6144x128 ![] bcast_S_S6144x128 (constantI S_ 32 64#32)))
      (Host.negf (Host.sin (theta (m ((c : Thread nD τ).loc main_arg3))))) (Host.sin (theta (m ((c : Thread nD τ).loc main_arg3)))) := by
  show StableHlo.after _ _ _ = _
  simp only [hostOps0, hostOps0_1, hostOps0_2, List.flatten_cons, List.flatten_nil, List.append_nil, List.cons_append, List.nil_append]
  after_results_simp
  rfl

theorem theta_apply (p : Vec Ideal S6x1024 .i32) (i : Fin 6144) (l : Fin 128) :
    theta p (ix2 i l) = angle (p (ix2 (⟨i.val / 1024, by omega⟩ : Fin 6) (⟨i.val % 1024, by omega⟩ : Fin 1024))) l := by
  unfold theta
  show FloatOps.mulf (broadcastInDim S6144x128 _ _ _ _) (broadcastInDim S6144x128 _ _ _ _) = _
  rw [broadcastInDim_apply _ _ _ _ (ix2 i (0 : Fin 1)) (by intro a; match a with | ⟨0, _⟩ => rfl | ⟨1, _⟩ => rfl),
    broadcastInDim_apply _ _ _ _ (ix2 (0 : Fin 1) l) (by intro a; match a with | ⟨0, _⟩ => rfl | ⟨1, _⟩ => rfl),
    broadcastInDim_apply _ _ _ _ (ix1 l) (by intro a; match a with | ⟨0, _⟩ => rfl)]
  show FloatOps.mulf (FloatOps.sitofp .f32 (shapeCast S6144x1 p _ (ix2 i (0 : Fin 1)))) _ = _
  rw [shapeCast_apply _ _ _ (ix2 (⟨i.val / 1024, by omega⟩ : Fin 6) (⟨i.val % 1024, by omega⟩ : Fin 1024)) (by
      rw [Shape.rowMajor_val_two, Shape.rowMajor_val_two]
      show i.val / 1024 * 1024 + i.val % 1024 = i.val * 1 + 0
      omega)]
  unfold angle freq
  refine congrArg (fun w => FloatOps.mulf (FloatOps.sitofp (F := Ideal) .f32 (p _)) (FloatOps.ofBits .f32 (Cert.QkvIdeal.lit0 w))) (Fin.ext ?_)
  exact Shape.rowMajor_val_one _

/-- A row of the flattened rows. -/
abbrev rowOf (i : Fin 6144) : Fin 6 := ⟨i.val / 1024, by omega⟩
abbrev posOf (i : Fin 6144) : Fin 1024 := ⟨i.val % 1024, by omega⟩

/-- A block of rows. -/
theorem read_x (c : Dev nD) (t : Fin cfg0.N) (r : Fin 512) (k : Fin 4096) (i : Fin 6144) (hi : i.val = 512 * (t.val / 12) + r.val) :
    iblk m c 0 t (ix2 r k) = m ((c : Thread nD τ).loc main_arg0) (ix3 (rowOf i) (posOf i) k) := by
  have hw := (win_idx t).1
  unfold iblk
  rw [View.read_apply]
  show V m c main_v14 _ = _
  rw [entry_x]
  refine shapeCast_apply _ _ _ (ix3 (rowOf i) (posOf i) k) ((Shape.rowMajor_val_three _).trans (Eq.trans ?_ (Shape.rowMajor_val_two (d := ![6144, 4096]) _).symm))
  show (i.val / 1024 * 1024 + i.val % 1024) * 4096 + k.val = (win0_0.index t 0 * 512 + 1 * r.val) * 4096 + (win0_0.index t 1 * 4096 + 1 * k.val)
  rw [hw.1, hw.2]; omega

/-- A block of the weight's codes. -/
theorem read_w (c : Dev nD) (t : Fin cfg0.N) (k : Fin 4096) (n : Fin 512) (j : Fin 6144) (hj : j.val = 512 * (t.val % 12) + n.val) :
    iblk m c 1 t (ix2 k n) = m ((c : Thread nD τ).loc main_arg1) (ix2 k j) := by
  have hw := (win_idx t).2.1
  unfold iblk
  rw [View.read_apply]
  show V m c main_arg1 _ = _
  rw [V_main_arg1]
  refine congrArg _ ?_
  funext a
  match a with
  | ⟨0, _⟩ => exact Fin.ext (show win0_1.index t 0 * 4096 + 1 * k.val = k.val by rw [hw.1]; omega)
  | ⟨1, _⟩ => exact Fin.ext (show win0_1.index t 1 * 512 + 1 * n.val = j.val by rw [hw.2]; omega)

/-- A block of the weight's scales. -/
theorem read_ws (c : Dev nD) (t : Fin cfg0.N) (g : Fin 128) (n : Fin 512) (j : Fin 6144) (hj : j.val = 512 * (t.val % 12) + n.val) :
    iblk m c 2 t (ix2 g n) = m ((c : Thread nD τ).loc main_arg2) (ix2 g j) := by
  have hw := (win_idx t).2.2.1
  unfold iblk
  rw [View.read_apply]
  show V m c main_arg2 _ = _
  rw [V_main_arg2]
  refine congrArg _ ?_
  funext a
  match a with
  | ⟨0, _⟩ => exact Fin.ext (show win0_2.index t 0 * 128 + 1 * g.val = g.val by rw [hw.1]; omega)
  | ⟨1, _⟩ => exact Fin.ext (show win0_2.index t 1 * 512 + 1 * n.val = j.val by rw [hw.2]; omega)

/-- A block of cosines. -/
theorem read_cos (c : Dev nD) (t : Fin cfg0.N) (r : Fin 512) (l : Fin 128) (i : Fin 6144) (hi : i.val = 512 * (t.val / 12) + r.val) :
    iblk m c 3 t (ix2 r l) = FloatOps.cos (angle (m ((c : Thread nD τ).loc main_arg3) (ix2 (rowOf i) (posOf i))) l) := by
  have hw := (win_idx t).2.2.2.1
  unfold iblk
  rw [View.read_apply]
  show V m c main_v7 _ = _
  rw [entry_cos]
  refine Eq.trans (congrArg _ (a₂ := ix2 i l) ?_) ?_
  · funext a
    match a with
    | ⟨0, _⟩ => exact Fin.ext (show win0_3.index t 0 * 512 + 1 * r.val = i.val by rw [hw.1]; omega)
    | ⟨1, _⟩ => exact Fin.ext (show win0_3.index t 1 * 128 + 1 * l.val = l.val by rw [hw.2]; omega)
  · show FloatOps.cos (theta _ (ix2 i l)) = _
    rw [theta_apply]

/-- A block of sines, negated on the first half of the lanes. -/
theorem read_sin (c : Dev nD) (t : Fin cfg0.N) (r : Fin 512) (l : Fin 128) (i : Fin 6144) (hi : i.val = 512 * (t.val / 12) + r.val) :
    iblk m c 4 t (ix2 r l) = if l.val < 64
      then FloatOps.hostNegf (FloatOps.sin (angle (m ((c : Thread nD τ).loc main_arg3) (ix2 (rowOf i) (posOf i))) l))
      else FloatOps.sin (angle (m ((c : Thread nD τ).loc main_arg3) (ix2 (rowOf i) (posOf i))) l) := by
  have hw := (win_idx t).2.2.2.2.1
  unfold iblk
  rw [View.read_apply]
  show V m c main_v13 _ = _
  rw [entry_sin]
  refine Eq.trans (congrArg _ (a₂ := ix2 i l) ?_) ?_
  · funext a
    match a with
    | ⟨0, _⟩ => exact Fin.ext (show win0_4.index t 0 * 512 + 1 * r.val = i.val by rw [hw.1]; omega)
    | ⟨1, _⟩ => exact Fin.ext (show win0_4.index t 1 * 128 + 1 * l.val = l.val by rw [hw.2]; omega)
  · show (if IntOp.cmpi .slt (BitVec.ofNat 32 l.val) 64#32 = 1#1 then FloatOps.hostNegf (FloatOps.sin (theta _ (ix2 i l))) else FloatOps.sin (theta _ (ix2 i l))) = _
    rw [theta_apply]
    by_cases h : l.val < 64
    · rw [half_lt l h, if_pos rfl, if_pos h]
    · rw [half_ge l h, if_neg (by decide), if_neg h]

end Cert.MxQkv

end
-- ==== Proof.QkvRef.lean ====
/-
  The reference of the projection: what its body computes at a row and a column, and its result array.
-/
module

public import proofs.«01_k».proof.Proof.Gen.QkvRefIdeal.Value
public import Idealize.ShloMosaic.Lib.Pipeline.Value
public import Idealize.ShloMosaic.Lib.Claim
public import Idealize.ShloMosaic.Lib.KernelVsHost
public import Idealize.ShloMosaic.Lib.ValueLayout
public import proofs.«01_k».proof.Proof.Ref
public import proofs.«01_k».proof.Proof.QkvReads

@[expose] public section

noncomputable section

namespace Cert.MxQkvRef

open Idealize.ShloMosaic Idealize.ShloMosaic.ValueIdx Cert.QkvRefIdeal Cert.QkvRefIdeal.Gen Idealize.SL.Sem Idealize.ShloMosaic.TcCoe
open Cert.MxDownRef (scaleVal)
open Cert.MxQkv (angle freq rowOf posOf)

/-- The weight's dequantised array. -/
def weight (w : Vec Ideal S4096x6144 .fp8e4m3) (ws : Vec Ideal S128x6144 .i8) : FVec Ideal S4096x6144 .bf16 :=
  shapeCast S4096x6144 (mulf (F := Ideal) (φ := .bf16) (shapeCast S128x32x6144 (extf (F := Ideal) .bf16 w bitsLt_fp8e4m3_bf16) shapeCasts_S4096x6144_S128x32x6144)
      (broadcastTo S128x32x6144 (shapeCast S128x1x6144 (truncf (F := Ideal) .bf16 (exp2 (F := Ideal) (sitofp .f32 (subi (extui 32 ws natLt_8_32) (broadcast S128x6144 127#32)))) bitsLt_bf16_f32)
        shapeCasts_S128x6144_S128x1x6144) broadcasts_S128x1x6144_S128x32x6144)) shapeCasts_S128x32x6144_S4096x6144

theorem weight_apply (w : Vec Ideal S4096x6144 .fp8e4m3) (ws : Vec Ideal S128x6144 .i8) (k : Fin 4096) (n : Fin 6144) :
    weight w ws (ix2 k n) = (w (ix2 k n) * scaleVal (ws (ix2 (⟨k.val / 32, by omega⟩ : Fin 128) n)) : EReal) := by
  unfold weight
  rw [shapeCast_apply _ _ (ix2 k n) (ix3 (⟨k.val / 32, by omega⟩ : Fin 128) (⟨k.val % 32, by omega⟩ : Fin 32) n) (by
      rw [Shape.rowMajor_val_two, Shape.rowMajor_val_three]
      show (k.val / 32 * 32 + k.val % 32) * 6144 + n.val = k.val * 6144 + n.val
      omega)]
  show ((shapeCast S128x32x6144 _ _ _ * broadcastTo S128x32x6144 _ _ _ : EReal)) = _
  rw [shapeCast_apply _ shapeCasts_S4096x6144_S128x32x6144 _ (ix2 k n) (by
      rw [Shape.rowMajor_val_two, Shape.rowMajor_val_three]
      show k.val * 6144 + n.val = (k.val / 32 * 32 + k.val % 32) * 6144 + n.val
      omega),
    broadcastTo_apply _ _ _ (ix3 (⟨k.val / 32, by omega⟩ : Fin 128) (0 : Fin 1) n) (by
      intro a
      match a with
      | ⟨0, _⟩ => rfl
      | ⟨1, _⟩ => rfl
      | ⟨2, _⟩ => rfl),
    shapeCast_apply _ _ _ (ix2 (⟨k.val / 32, by omega⟩ : Fin 128) n) (by
      rw [Shape.rowMajor_val_two, Shape.rowMajor_val_three]
      show k.val / 32 * 6144 + n.val = (k.val / 32 * 1 + 0) * 6144 + n.val
      omega)]
  rfl

/-- The product of the rows with the dequantised weight. -/
def prod (w : Vec Ideal S4096x6144 .fp8e4m3) (ws : Vec Ideal S128x6144 .i8) (x : Vec Ideal S6144x4096 .bf16) : FVec Ideal S6144x6144 .f32 :=
  matmul dot_S6144x4096_S4096x6144_S6144x6144_1_0_0_1_n_n (φ₁ := .bf16) none (x : FVec Ideal S6144x4096 .bf16) (weight w ws) (constant S6144x6144 .f32 0x00000000#32)

theorem prod_apply (w : Vec Ideal S4096x6144 .fp8e4m3) (ws : Vec Ideal S128x6144 .i8) (x : Vec Ideal S6144x4096 .bf16) (i n : Fin 6144) :
    prod w ws x (ix2 i n) = (∑ k : Fin 4096, x (ix2 i k) * (w (ix2 k n) * scaleVal (ws (ix2 (⟨k.val / 32, by omega⟩ : Fin 128) n))) : EReal) := by
  unfold prod
  simp only [matmul]
  rw [Ideal.matmul_constant_zero_apply,
    ← Equiv.sum_comp (contrEquiv1 dot_S6144x4096_S4096x6144_S6144x6144_1_0_0_1_n_n 4096 rfl rfl).symm]
  refine Finset.sum_congr rfl fun k _ => ?_
  refine congrArg₂ (· * ·) (congrArg x ?_) (Eq.trans (congrArg _ ?_) (weight_apply w ws k n))
  · funext a; match a with | ⟨0, _⟩ => rfl | ⟨1, _⟩ => rfl
  · funext a; match a with | ⟨0, _⟩ => rfl | ⟨1, _⟩ => rfl

/-- The heads of the queries and keys. -/
def heads (d : FVec Ideal S6144x6144 .f32) : FVec Ideal S6144x40x128 .f32 :=
  shapeCast S6144x40x128 (extractStridedSlice S6144x5120 ![0, 0] d slices_S6144x6144_o0_0_S6144x5120) shapeCasts_S6144x5120_S6144x40x128

theorem heads_apply (d : FVec Ideal S6144x6144 .f32) (i : Fin 6144) (h : Fin 40) (l : Fin 128) (n : Fin 6144) (hn : n.val = 128 * h.val + l.val) :
    heads d (ix3 i h l) = d (ix2 i n) := by
  unfold heads
  rw [shapeCast_apply _ _ (ix3 i h l) (ix2 i (⟨n.val, by omega⟩ : Fin 5120)) (by
      rw [Shape.rowMajor_val_two, Shape.rowMajor_val_three]
      show i.val * 5120 + n.val = (i.val * 40 + h.val) * 128 + l.val
      omega)]
  refine extractStridedSlice_apply _ _ _ _ (ix2 i n) ?_
  intro a
  match a with
  | ⟨0, _⟩ => show i.val = 0 + i.val; omega
  | ⟨1, _⟩ => show n.val = 0 + n.val; omega

/-- A half of every head. -/
def lo (d : FVec Ideal S6144x6144 .f32) : FVec Ideal S6144x40x64 .f32 :=
  extractStridedSlice S6144x40x64 ![0, 0, 0] (heads d) slices_S6144x40x128_o0_0_0_S6144x40x64
def hi (d : FVec Ideal S6144x6144 .f32) : FVec Ideal S6144x40x64 .f32 :=
  extractStridedSlice S6144x40x64 ![0, 0, 64] (heads d) slices_S6144x40x128_o0_0_64_S6144x40x64

theorem lo_apply (d : FVec Ideal S6144x6144 .f32) (i : Fin 6144) (h : Fin 40) (k : Fin 64) (n : Fin 6144) (hn : n.val = 128 * h.val + k.val) :
    lo d (ix3 i h k) = d (ix2 i n) := by
  unfold lo
  rw [extractStridedSlice_apply _ _ _ _ (ix3 i h (⟨k.val, by omega⟩ : Fin 128)) (by
    intro a
    match a with
    | ⟨0, _⟩ => show i.val = 0 + i.val; omega
    | ⟨1, _⟩ => show h.val = 0 + h.val; omega
    | ⟨2, _⟩ => show k.val = 0 + k.val; omega)]
  exact heads_apply d i h _ n hn

theorem hi_apply (d : FVec Ideal S6144x6144 .f32) (i : Fin 6144) (h : Fin 40) (k : Fin 64) (n : Fin 6144) (hn : n.val = 128 * h.val + 64 + k.val) :
    hi d (ix3 i h k) = d (ix2 i n) := by
  unfold hi
  rw [extractStridedSlice_apply _ _ _ _ (ix3 i h (⟨64 + k.val, by omega⟩ : Fin 128)) (by
    intro a
    match a with
    | ⟨0, _⟩ => show i.val = 0 + i.val; omega
    | ⟨1, _⟩ => show h.val = 0 + h.val; omega
    | ⟨2, _⟩ => show 64 + k.val = 64 + k.val; rfl)]
  exact heads_apply d i h _ n (by rw [hn]; show _ = 128 * h.val + (64 + k.val); omega)

/-- A table, the same for every head. -/
def tab (cs : Vec Ideal S6144x64 .f32) : FVec Ideal S6144x40x64 .f32 :=
  broadcastTo S6144x40x64 (shapeCast S6144x1x64 (cs : FVec Ideal S6144x64 .f32) shapeCasts_S6144x64_S6144x1x64) broadcasts_S6144x1x64_S6144x40x64

theorem tab_apply (cs : Vec Ideal S6144x64 .f32) (i : Fin 6144) (h : Fin 40) (k : Fin 64) : tab cs (ix3 i h k) = cs (ix2 i k) := by
  unfold tab
  rw [broadcastTo_apply _ _ _ (ix3 i (0 : Fin 1) k) (by
      intro a
      match a with
      | ⟨0, _⟩ => rfl
      | ⟨1, _⟩ => rfl
      | ⟨2, _⟩ => rfl),
    shapeCast_apply _ _ _ (ix2 i k) (by
      rw [Shape.rowMajor_val_two, Shape.rowMajor_val_three]
      show i.val * 64 + k.val = (i.val * 1 + 0) * 64 + k.val
      omega)]

/-- The rotated heads and, beside them, the values. -/
def rot (d : FVec Ideal S6144x6144 .f32) (cs sn : Vec Ideal S6144x64 .f32) : FVec Ideal S6144x6144 .f32 :=
  concatenate S6144x6144 1 [⟨S6144x5120, shapeCast S6144x5120 (concatenate S6144x40x128 2
      [⟨S6144x40x64, subf (mulf (lo d) (tab cs)) (mulf (hi d) (tab sn))⟩, ⟨S6144x40x64, addf (mulf (hi d) (tab cs)) (mulf (lo d) (tab sn))⟩]
      concatenates_S6144x40x64_S6144x40x64_S6144x40x128_d2) shapeCasts_S6144x40x128_S6144x5120⟩,
    ⟨S6144x1024, extractStridedSlice S6144x1024 ![0, 5120] d slices_S6144x6144_o0_5120_S6144x1024⟩] concatenates_S6144x5120_S6144x1024_S6144x6144_d1

theorem pay_eq (w : Vec Ideal S4096x6144 .fp8e4m3) (ws : Vec Ideal S128x6144 .i8) (x : Vec Ideal S6144x4096 .bf16) (cs sn : Vec Ideal S6144x64 .f32) :
    k0_pay1 w ws x cs sn = rot (prod w ws x) cs sn := by
  have e : k0_pay1 w ws x cs sn = rot (prod w ws (shapeCast S6144x4096 (x : FVec Ideal S6144x4096 .bf16) shapeCasts_S6144x4096_S6144x4096))
      (shapeCast S6144x64 (cs : FVec Ideal S6144x64 .f32) shapeCasts_S6144x64_S6144x64) (shapeCast S6144x64 (sn : FVec Ideal S6144x64 .f32) shapeCasts_S6144x64_S6144x64) := rfl
  rw [e, shapeCast_self, shapeCast_self, shapeCast_self]

/-- In the values' columns the product itself. -/
theorem rot_v (d : FVec Ideal S6144x6144 .f32) (cs sn : Vec Ideal S6144x64 .f32) (i n : Fin 6144) (h : ¬n.val < 5120) :
    rot d cs sn (ix2 i n) = d (ix2 i n) := by
  unfold rot
  rw [concatenate_pair_apply_right (t := S6144x6144) (s₁ := S6144x5120) (s₂ := S6144x1024) 1 _ _
    concatenates_S6144x5120_S6144x1024_S6144x6144_d1 (ix2 i n) rfl rfl (ix2 i (⟨n.val - 5120, by omega⟩ : Fin 1024))
    (fun b => match b with | ⟨0, _⟩ => fun _ => rfl | ⟨1, _⟩ => fun h => absurd rfl h) (by show n.val - 5120 + 5120 = n.val; omega)]
  refine extractStridedSlice_apply _ _ _ _ (ix2 i n) ?_
  intro a
  match a with
  | ⟨0, _⟩ => show i.val = 0 + i.val; omega
  | ⟨1, _⟩ => show n.val = 5120 + (n.val - 5120); omega

/-- In the queries' and keys' columns the two halves. -/
theorem rot_qk (d : FVec Ideal S6144x6144 .f32) (cs sn : Vec Ideal S6144x64 .f32) (i n : Fin 6144) (h : n.val < 5120) :
    rot d cs sn (ix2 i n) = concatenate S6144x40x128 2
      [⟨S6144x40x64, subf (mulf (lo d) (tab cs)) (mulf (hi d) (tab sn))⟩, ⟨S6144x40x64, addf (mulf (hi d) (tab cs)) (mulf (lo d) (tab sn))⟩]
      concatenates_S6144x40x64_S6144x40x64_S6144x40x128_d2 (ix3 i (⟨n.val / 128, by omega⟩ : Fin 40) (⟨n.val % 128, by omega⟩ : Fin 128)) := by
  unfold rot
  rw [concatenate_pair_apply_left (t := S6144x6144) (s₁ := S6144x5120) (s₂ := S6144x1024) 1 _ _
    concatenates_S6144x5120_S6144x1024_S6144x6144_d1 (ix2 i n) rfl (ix2 i (⟨n.val, h⟩ : Fin 5120))
    (fun b => match b with | ⟨0, _⟩ => rfl | ⟨1, _⟩ => rfl)]
  refine shapeCast_apply _ _ _ _ ?_
  rw [Shape.rowMajor_val_two, Shape.rowMajor_val_three]
  show (i.val * 40 + n.val / 128) * 128 + n.val % 128 = i.val * 5120 + n.val
  omega

theorem rot_lo (d : FVec Ideal S6144x6144 .f32) (cs sn : Vec Ideal S6144x64 .f32) (i n n' : Fin 6144) (h : n.val < 5120) (hl : n.val % 128 < 64)
    (hn' : n'.val = n.val + 64) (k : Fin 64) (hk : k.val = n.val % 128) :
    rot d cs sn (ix2 i n) = (d (ix2 i n) * cs (ix2 i k) - d (ix2 i n') * sn (ix2 i k) : EReal) := by
  rw [rot_qk d cs sn i n h, concatenate_pair_apply_left (t := S6144x40x128) (s₁ := S6144x40x64) (s₂ := S6144x40x64) 2 _ _
    concatenates_S6144x40x64_S6144x40x64_S6144x40x128_d2 (ix3 i (⟨n.val / 128, by omega⟩ : Fin 40) (⟨n.val % 128, by omega⟩ : Fin 128)) rfl
    (ix3 i (⟨n.val / 128, by omega⟩ : Fin 40) k)
    (fun b => match b with | ⟨0, _⟩ => rfl | ⟨1, _⟩ => rfl | ⟨2, _⟩ => hk)]
  show (lo d _ * tab cs _ - hi d _ * tab sn _ : EReal) = _
  rw [lo_apply d i _ k n (by dsimp only; omega), hi_apply d i _ k n' (by dsimp only; omega), tab_apply, tab_apply]

theorem rot_hi (d : FVec Ideal S6144x6144 .f32) (cs sn : Vec Ideal S6144x64 .f32) (i n n' : Fin 6144) (h : n.val < 5120) (hl : ¬n.val % 128 < 64)
    (hn' : n.val = n'.val + 64) (k : Fin 64) (hk : n.val % 128 = k.val + 64) :
    rot d cs sn (ix2 i n) = (d (ix2 i n) * cs (ix2 i k) + d (ix2 i n') * sn (ix2 i k) : EReal) := by
  rw [rot_qk d cs sn i n h, concatenate_pair_apply_right (t := S6144x40x128) (s₁ := S6144x40x64) (s₂ := S6144x40x64) 2 _ _
    concatenates_S6144x40x64_S6144x40x64_S6144x40x128_d2 (ix3 i (⟨n.val / 128, by omega⟩ : Fin 40) (⟨n.val % 128, by omega⟩ : Fin 128)) rfl rfl
    (ix3 i (⟨n.val / 128, by omega⟩ : Fin 40) k)
    (fun b => match b with | ⟨0, _⟩ => fun _ => rfl | ⟨1, _⟩ => fun _ => rfl | ⟨2, _⟩ => fun h => absurd rfl h) hk.symm]
  show (hi d _ * tab cs _ + lo d _ * tab sn _ : EReal) = _
  rw [hi_apply d i _ k n (by dsimp only; omega), lo_apply d i _ k n' (by dsimp only; omega), tab_apply, tab_apply]

variable (m : (ℓ : Loc nD τ sig) → Buf (Elt Ideal) ℓ)

/-- The one grid point. -/
def t₀ : Fin cfg0.N := ⟨0, by decide⟩

/-- The result array after the run, read through its one block, is what the one point's write-back wrote. -/
theorem final_out (c : Dev nD) :
    ((cfg0.win 5).blk t₀).view.read (Elt Ideal) ((dats m 0 c).arrAt 5 cfg0.N) = (dats m 0 c).flushed 5 t₀ := by
  rw [show cfg0.N = (t₀ : Fin cfg0.N).val + 1 from rfl, (dats m 0 c).arrAt_succ 5 t₀]
  rw [show (cfg0.win 5).flush t₀ = true from by decide, if_pos rfl]
  exact View.read_write_univ _ _

/-- The whole-buffer loads read the buffers and the one covering store leaves its payload. -/
theorem out_eq (x0 : Vec Ideal S6144x4096 .bf16) (x1 : Vec Ideal S4096x6144 .fp8e4m3) (x2 : Vec Ideal S128x6144 .i8)
    (x3 : Vec Ideal S6144x64 .f32) (x4 : Vec Ideal S6144x64 .f32) : out0_5 x0 x1 x2 x3 x4 = k0_pay1 x1 x2 x0 x3 x4 := by
  have hz : (![0, 0] : Fin 2 → Nat) = fun _ => 0 := funext fun a => by fin_cases a <;> rfl
  unfold out0_5
  rw [View.canon_unit_zero hz, View.ld_unit_zero (S := S6144x4096) hz, View.ld_unit_zero (S := S4096x6144) hz,
    View.ld_unit_zero (S := S128x6144) hz, View.ld_unit_zero (S := S6144x64) hz, View.ld_unit_zero (S := S6144x64) hz]

/-- The result array holds the body's value of the arrays its windows stage. -/
theorem final_value (c : Dev nD) :
    (dats m 0 c).arrAt 5 cfg0.N = k0_pay1 (V m c main_arg1) (V m c main_arg2) (V m c main_v7) (V m c main_v8) (V m c main_v9) := by
  have ho := final_out m c
  have hz5 : (fun a => (win0_5.index t₀) a * main_v10.ty.shape.size a) = fun _ => 0 := funext fun a => by fin_cases a <;> decide
  have hr5 := fun f => Memref.read_access_unit_zero (Elt Ideal) main_v10 hz5 (fun a => by fin_cases a <;> decide) f
  have hz0 : (fun a => (win0_0.index t₀) a * main_v7.ty.shape.size a) = fun _ => 0 := funext fun a => by fin_cases a <;> decide
  have hr0 := fun f => Memref.read_access_unit_zero (Elt Ideal) main_v7 hz0 (fun a => by fin_cases a <;> decide) f
  have hz1 : (fun a => (win0_1.index t₀) a * main_arg1.ty.shape.size a) = fun _ => 0 := funext fun a => by fin_cases a <;> decide
  have hr1 := fun f => Memref.read_access_unit_zero (Elt Ideal) main_arg1 hz1 (fun a => by fin_cases a <;> decide) f
  have hz2 : (fun a => (win0_2.index t₀) a * main_arg2.ty.shape.size a) = fun _ => 0 := funext fun a => by fin_cases a <;> decide
  have hr2 := fun f => Memref.read_access_unit_zero (Elt Ideal) main_arg2 hz2 (fun a => by fin_cases a <;> decide) f
  have hz3 : (fun a => (win0_3.index t₀) a * main_v8.ty.shape.size a) = fun _ => 0 := funext fun a => by fin_cases a <;> decide
  have hr3 := fun f => Memref.read_access_unit_zero (Elt Ideal) main_v8 hz3 (fun a => by fin_cases a <;> decide) f
  have hz4 : (fun a => (win0_4.index t₀) a * main_v9.ty.shape.size a) = fun _ => 0 := funext fun a => by fin_cases a <;> decide
  have hr4 := fun f => Memref.read_access_unit_zero (Elt Ideal) main_v9 hz4 (fun a => by fin_cases a <;> decide) f
  rw [hr5] at ho
  rw [ho]
  show (cfg0.win 5).cut _ ((dats m 0 c).after 5 t₀) = _
  rw [after0_5, out_eq]
  unfold iblk
  rw [hr0, hr1, hr2, hr3, hr4]
  rfl

/-! ## The host's tables -/

/-- The frequencies repeat after 64 lanes: the kernel's 128 constants are the reference's 64, twice. -/
theorem lit_eq (l : Fin 128) : Cert.QkvIdeal.lit0 l = Cert.QkvRefIdeal.lit0 ⟨l.val % 64, Nat.mod_lt _ (by decide)⟩ :=
  (by decide +kernel : ∀ l : Fin 128, Cert.QkvIdeal.lit0 l = Cert.QkvRefIdeal.lit0 ⟨l.val % 64, Nat.mod_lt _ (by decide)⟩) l

/-- The reference's angles. -/
def theta (p : Vec Ideal S6x1024 .i32) : FVec Ideal S6144x64 .f32 :=
  mulf (broadcastInDim S6144x64 ![0, 1] bcast_S6144x1_S6144x64_0_1 (broadcastInDim S6144x1 ![0] bcast_S6144_S6144x1_0 (sitofp .f32 (shapeCast S6144 p shapeCasts_S6x1024_S6144))))
    (broadcastInDim S6144x64 ![0, 1] bcast_S1x64_S6144x64_0_1 (broadcastInDim S1x64 ![1] bcast_S64_S1x64_1
      (fun i : S64.Idx => (FloatOps.ofBits .f32 (Cert.QkvRefIdeal.lit0 (S64.rowMajor i)) : Ideal .f32))))

theorem theta_apply (p : Vec Ideal S6x1024 .i32) (i : Fin 6144) (k : Fin 64) (l : Fin 128) (hl : l.val % 64 = k.val) :
    theta p (ix2 i k) = angle (p (ix2 (rowOf i) (posOf i))) l := by
  unfold theta
  show FloatOps.mulf (broadcastInDim S6144x64 _ _ _ _) (broadcastInDim S6144x64 _ _ _ _) = _
  rw [broadcastInDim_apply _ _ _ _ (ix2 i (0 : Fin 1)) (by intro a; match a with | ⟨0, _⟩ => rfl | ⟨1, _⟩ => rfl),
    broadcastInDim_apply _ _ _ _ (ix1 i) (by intro a; match a with | ⟨0, _⟩ => rfl),
    broadcastInDim_apply _ _ _ _ (ix2 (0 : Fin 1) k) (by intro a; match a with | ⟨0, _⟩ => rfl | ⟨1, _⟩ => rfl),
    broadcastInDim_apply _ _ _ _ (ix1 k) (by intro a; match a with | ⟨0, _⟩ => rfl)]
  show FloatOps.mulf (FloatOps.sitofp .f32 (shapeCast S6144 p _ (ix1 i))) _ = _
  rw [shapeCast_apply _ _ _ (ix2 (rowOf i) (posOf i)) (by
      rw [Shape.rowMajor_val_one, Shape.rowMajor_val_two]
      show i.val / 1024 * 1024 + i.val % 1024 = i.val
      omega)]
  unfold angle freq
  rw [lit_eq]
  refine congrArg (fun w => FloatOps.mulf (FloatOps.sitofp (F := Ideal) .f32 (p _)) (FloatOps.ofBits .f32 (Cert.QkvRefIdeal.lit0 w))) (Fin.ext ?_)
  exact (Shape.rowMajor_val_one _).trans hl.symm

theorem entry_x (c : Dev nD) : V m c main_v7
    = shapeCast S6144x4096 (m ((c : Thread nD τ).loc main_arg0)) shapeCasts_S6x1024x4096_S6144x4096 := by
  show StableHlo.after _ _ _ = _
  simp only [hostOps0]
  after_results_simp
  rfl

theorem entry_cos (c : Dev nD) : V m c main_v8 = Host.cos (theta (m ((c : Thread nD τ).loc main_arg3))) := by
  show StableHlo.after _ _ _ = _
  simp only [hostOps0]
  after_results_simp
  rfl

theorem entry_sin (c : Dev nD) : V m c main_v9 = Host.sin (theta (m ((c : Thread nD τ).loc main_arg3))) := by
  show StableHlo.after _ _ _ = _
  simp only [hostOps0]
  after_results_simp
  rfl

/-- The product at a row and a column, over the arguments as launched. -/
def dotR (c : Dev nD) (i n : Fin 6144) : EReal :=
  ∑ k : Fin 4096, (show EReal from m ((c : Thread nD τ).loc main_arg0) (ix3 (rowOf i) (posOf i) k))
    * ((show EReal from m ((c : Thread nD τ).loc main_arg1) (ix2 k n))
      * scaleVal (m ((c : Thread nD τ).loc main_arg2) (ix2 (⟨k.val / 32, by omega⟩ : Fin 128) n)))

theorem prod_value (c : Dev nD) (i n : Fin 6144) :
    prod (V m c main_arg1) (V m c main_arg2) (V m c main_v7) (ix2 i n) = dotR m c i n := by
  rw [prod_apply, V_main_arg1, V_main_arg2]
  unfold dotR
  refine Finset.sum_congr rfl fun k _ => congrArg₂ (· * ·) ?_ rfl
  rw [entry_x]
  refine shapeCast_apply _ _ _ (ix3 (rowOf i) (posOf i) k) ((Shape.rowMajor_val_three _).trans (Eq.trans ?_ (Shape.rowMajor_val_two (d := ![6144, 4096]) _).symm))
  show (i.val / 1024 * 1024 + i.val % 1024) * 4096 + k.val = i.val * 4096 + k.val
  omega

/-- The reference's result: the values. -/
theorem value_v (c : Dev nD) (i n : Fin 6144) (h : ¬n.val < 5120) :
    (dats m 0 c).arrAt 5 cfg0.N (ix2 i n) = dotR m c i n := by
  rw [final_value, pay_eq, rot_v _ _ _ i n h, prod_value]

/-- The reference's result: the first half of a head of queries or keys. -/
theorem value_lo (c : Dev nD) (i n n' : Fin 6144) (h : n.val < 5120) (hl : n.val % 128 < 64) (hn' : n'.val = n.val + 64)
    (l : Fin 128) (hk : l.val = n.val % 128) :
    (dats m 0 c).arrAt 5 cfg0.N (ix2 i n) = (dotR m c i n * FloatOps.cos (angle (m ((c : Thread nD τ).loc main_arg3) (ix2 (rowOf i) (posOf i))) l)
      - dotR m c i n' * FloatOps.sin (angle (m ((c : Thread nD τ).loc main_arg3) (ix2 (rowOf i) (posOf i))) l) : EReal) := by
  rw [final_value, pay_eq, rot_lo _ _ _ i n n' h hl hn' (⟨n.val % 128, hl⟩ : Fin 64) rfl, prod_value, prod_value, entry_cos, entry_sin]
  show (dotR m c i n * FloatOps.cos (theta _ (ix2 i _)) - dotR m c i n' * FloatOps.sin (theta _ (ix2 i _)) : EReal) = _
  rw [theta_apply _ i _ l (by dsimp only; omega)]

/-- The reference's result: the second half of a head of queries or keys. -/
theorem value_hi (c : Dev nD) (i n n' : Fin 6144) (h : n.val < 5120) (hl : ¬n.val % 128 < 64) (hn' : n.val = n'.val + 64)
    (l : Fin 128) (hk : l.val = n.val % 128) :
    (dats m 0 c).arrAt 5 cfg0.N (ix2 i n) = (dotR m c i n * FloatOps.cos (angle (m ((c : Thread nD τ).loc main_arg3) (ix2 (rowOf i) (posOf i))) l)
      + dotR m c i n' * FloatOps.sin (angle (m ((c : Thread nD τ).loc main_arg3) (ix2 (rowOf i) (posOf i))) l) : EReal) := by
  rw [final_value, pay_eq, rot_hi _ _ _ i n n' h hl hn' (⟨n.val % 128 - 64, by omega⟩ : Fin 64) (by dsimp only; omega), prod_value, prod_value, entry_cos, entry_sin]
  show (dotR m c i n * FloatOps.cos (theta _ (ix2 i _)) + dotR m c i n' * FloatOps.sin (theta _ (ix2 i _)) : EReal) = _
  rw [theta_apply _ i _ l (by dsimp only; omega)]

end Cert.MxQkvRef

end
-- ==== Proof.QkvEquation.lean ====
/-
  The projection's two results are equal: the kernel's block by block, the reference's at once.
-/
module

public import proofs.«01_k».proof.Proof.Gen.QkvIdeal.Value
public import proofs.«01_k».proof.Proof.Gen.Pre_normal_weight
public import proofs.«01_k».proof.Proof.QkvBlock
public import proofs.«01_k».proof.Proof.QkvReads
public import proofs.«01_k».proof.Proof.QkvRef
public import proofs.«01_k».proof.Proof.Equation

@[expose] public section

noncomputable section

namespace Cert.MxQkv

open Idealize.ShloMosaic hiding ix2 ix3
open Idealize.ShloMosaic.ValueIdx Cert.QkvIdeal Cert.QkvIdeal.Gen Idealize.SL.Sem Idealize.ShloMosaic.TcCoe
open Cert.MxDown (scaleOf le_of_mask ge_of_mask scale_decode)
open Cert.MxDownRef (scaleVal)

variable (m : (ℓ : Loc nD τ sig) → Buf (Elt Ideal) ℓ)

/-- No scale byte of the weight is 0 or 255. -/
def Normal : Prop := ∀ (c : Dev nD) (x : S128x6144.Idx),
  scaleOf (m ((c : Thread nD τ).loc main_arg2) x) = scaleVal (m ((c : Thread nD τ).loc main_arg2) x)

/-- The precondition, read at each byte. -/
theorem normal_of_pre (h : Cert.Pre_QkvIdeal_normal_weight (hPre_normal_weight := Cert.Pre_normal_weight.Gen.facts) m) : Normal m :=
  fun c x => scale_decode _ (le_of_mask (congrFun (h c).1 x)) (ge_of_mask (congrFun (h c).2 x))

/-- The block of rows that the points of a row of blocks share. -/
def rows (c : Dev nD) (q : Nat) : Vec Ideal S512x4096 .bf16 := fun j =>
  if h : q < 12 then m ((c : Thread nD τ).loc main_arg0) (ix3 (rowOf (⟨512 * q + (j 0).val, by have := idx2_lt0 j; omega⟩ : Fin 6144))
    (posOf (⟨512 * q + (j 0).val, by have := idx2_lt0 j; omega⟩ : Fin 6144)) (j 1)) else (0 : EReal)

theorem iblk_rows (c : Dev nD) (t : Fin cfg0.N) : iblk m c 0 t = rows m c (t.val / 12) := by
  have hN : cfg0.N = 144 := N_0
  have ht := t.isLt
  funext j
  obtain ⟨r, k, rfl⟩ : ∃ (r : Fin 512) (k : Fin 4096), j = ix2 r k := ⟨j 0, j 1, by funext a; match a with | ⟨0, _⟩ => rfl | ⟨1, _⟩ => rfl⟩
  refine (read_x m c t r k ⟨512 * (t.val / 12) + r.val, by omega⟩ rfl).trans ?_
  unfold rows
  rw [dif_pos (by omega : t.val / 12 < 12)]

/-- After every point the scratch holds the rows of its row of blocks. -/
theorem scratch_eq (c : Dev nD) : ∀ (n : Nat) (hn : n < cfg0.N), (outsAt0 m c n hn).2 = rows m c (n / 12) := by
  intro n
  induction n with
  | zero =>
    intro hn
    rw [outsAt0_A m c ⟨0, hn⟩ rfl]
    dsimp only
    exact (sout_A ..).trans (iblk_rows m c ⟨0, hn⟩)
  | succ n ih =>
    intro hn
    by_cases h0 : (n + 1) % 12 = 0
    · rw [outsAt0_A m c ⟨n + 1, hn⟩ h0]
      dsimp only
      exact (sout_A ..).trans (iblk_rows m c ⟨n + 1, hn⟩)
    · rw [outsAt0_B m c ⟨n + 1, hn⟩ h0]
      refine (ih (Nat.lt_of_succ_lt hn)).trans ?_
      rw [show n / 12 = (n + 1) / 12 by omega]

/-- The block that a point writes. -/
theorem out_at (c : Dev nD) (t : Fin cfg0.N) :
    (outsAt0 m c t.val t.isLt).1 = outBlock (isV (grid0.coords t)) (rows m c (t.val / 12)) (iblk m c 1 t) (iblk m c 2 t) (iblk m c 3 t) (iblk m c 4 t) := by
  by_cases h0 : t.val % 12 = 0
  · rw [outsAt0_A m c t h0]
    dsimp only
    refine (out_A ..).trans ?_
    rw [iblk_rows]
  · rw [outsAt0_B m c t h0]
    dsimp only
    refine (out_B ..).trans ?_
    rw [scratch_eq, show (t.val - 1) / 12 = t.val / 12 by omega]

theorem idx_inj5 : ∀ t t' : Fin cfg0.N, win0_5.index t = win0_5.index t' → t = t' := by
  intro t t' h
  obtain ⟨-, -, -, -, -, ⟨h0, h1⟩, -⟩ := win_idx t
  obtain ⟨-, -, -, -, -, ⟨h0', h1'⟩, -⟩ := win_idx t'
  have e0 := congrFun h 0
  have e1 := congrFun h 1
  apply Fin.ext
  rw [h0, h0'] at e0
  rw [h1, h1'] at e1
  omega

/-- The block of a point, read back from the result, is what the point wrote. -/
theorem blocks (c : Dev nD) (t : Fin cfg0.N) (hf : (cfg0.win 5).flush t = true) :
    ((cfg0.win 5).blk t).view.read (Elt Ideal) ((dats m 0 c).arrAt 5 cfg0.N)
      = (cfg0.win 5).cut (grid0.coords t) ((outsAt0 m c t.val t.isLt).1) := by
  refine ((dats m 0 c).read_blk_arrAt_eq_flushed 5 (fun t t' _ _ hne => (cfg0.win 5).disjoint_blk fun h => hne (idx_inj5 t t' h))
    cfg0.N t t.isLt hf).trans ?_
  show (cfg0.win 5).cut (grid0.coords t) ((dats m 0 c).after 5 t) = _
  rw [after0_5]

/-- The product at a row and a column, over the arguments as launched. -/
def dotK (c : Dev nD) (i n : Fin 6144) : EReal :=
  ∑ k : Fin 4096, (show EReal from m ((c : Thread nD τ).loc main_arg0) (ix3 (rowOf i) (posOf i) k))
    * ((show EReal from m ((c : Thread nD τ).loc main_arg1) (ix2 k n))
      * scaleVal (m ((c : Thread nD τ).loc main_arg2) (ix2 (⟨k.val / 32, by omega⟩ : Fin 128) n)))

theorem dot_eq (hn : Normal m) (c : Dev nD) (t : Fin cfg0.N) (r n : Fin 512) (i j : Fin 6144) (hi : i.val = 512 * (t.val / 12) + r.val)
    (hj : j.val = 512 * (t.val % 12) + n.val) :
    dot (rows m c (t.val / 12)) (iblk m c 1 t) (iblk m c 2 t) r n = dotK m c i j := by
  unfold dot dotK
  refine Finset.sum_congr rfl fun k _ => ?_
  refine congrArg₂ (· * ·) ?_ (congrArg₂ (· * ·) (read_w m c t k n j hj) ((congrArg scaleOf (read_ws m c t _ n j hj)).trans (hn c _)))
  rw [← iblk_rows]
  exact read_x m c t r k i hi

/-- The kernel's result at a row and a column. -/
theorem kernel_value (hn : Normal m) (c : Dev nD) (i j j' : Fin 6144) (l : Fin 128) (hl : l.val = j.val % 128)
    (hj' : j'.val = 128 * (j.val / 128) + (j.val % 128 + 64) % 128) :
    (dats m 0 c).arrAt 5 cfg0.N (ix2 i j)
      = (dotK m c i j * (if j.val < 5120 then FloatOps.cos (angle (m ((c : Thread nD τ).loc main_arg3) (ix2 (rowOf i) (posOf i))) l) else 1)
        + dotK m c i j' * (if j.val < 5120 then (if l.val < 64
            then FloatOps.hostNegf (FloatOps.sin (angle (m ((c : Thread nD τ).loc main_arg3) (ix2 (rowOf i) (posOf i))) l))
            else FloatOps.sin (angle (m ((c : Thread nD τ).loc main_arg3) (ix2 (rowOf i) (posOf i))) l)) else 0) : EReal) := by
  have hN : cfg0.N = 144 := N_0
  let t : Fin cfg0.N := ⟨12 * (i.val / 512) + j.val / 512, by omega⟩
  have ht0 : t.val / 12 = i.val / 512 := by show (12 * (i.val / 512) + j.val / 512) / 12 = _; omega
  have ht1 : t.val % 12 = j.val / 512 := by show (12 * (i.val / 512) + j.val / 512) % 12 = _; omega
  let r : Fin 512 := ⟨i.val % 512, by omega⟩
  let n : Fin 512 := ⟨j.val % 512, by omega⟩
  have hi : i.val = 512 * (t.val / 12) + r.val := by rw [ht0]; show _ = 512 * (i.val / 512) + i.val % 512; omega
  have hj : j.val = 512 * (t.val % 12) + n.val := by rw [ht1]; show _ = 512 * (j.val / 512) + j.val % 512; omega
  have hp : j'.val = 512 * (t.val % 12) + (partner n).val := by
    rw [ht1, hj']
    show _ = 512 * (j.val / 512) + (128 * (j.val % 512 / 128) + (j.val % 512 % 128 + 64) % 128)
    omega
  obtain ⟨-, -, -, -, -, hw, hf, hc⟩ := win_idx t
  have h := congrFun (blocks m c t hf) (ix2 r n)
  rw [out_at, View.read_apply] at h
  refine Eq.trans (congrArg _ ?_) (h.trans ?_)
  · funext a
    match a with
    | ⟨0, _⟩ => exact Fin.ext (show i.val = win0_5.index t 0 * 512 + 1 * r.val by rw [hw.1]; omega)
    | ⟨1, _⟩ => exact Fin.ext (show j.val = win0_5.index t 1 * 512 + 1 * n.val by rw [hw.2]; omega)
  · show (dot _ _ _ r n * (if isV (grid0.coords t) = 1#1 then 1 else (show EReal from iblk m c 3 t (ix2 r (lane n))))
      + dot _ _ _ r (partner n) * (if isV (grid0.coords t) = 1#1 then 0 else (show EReal from iblk m c 4 t (ix2 r (lane n)))) : EReal) = _
    have hll : lane n = l := Fin.ext (show j.val % 512 % 128 = l.val by omega)
    have hv : isV (grid0.coords t) = 1#1 ↔ ¬j.val < 5120 := by
      unfold isV
      rw [hc, ht1]
      have := (by decide +kernel : ∀ q : Fin 12, Scalar.cmpi .sge (BitVec.ofNat 32 q.val) 10#32 = 1#1 ↔ 10 ≤ q.val) ⟨j.val / 512, by omega⟩
      rw [this]
      dsimp only
      omega
    rw [dot_eq m hn c t r n i j hi hj, dot_eq m hn c t r (partner n) i j' hi hp, hll, read_cos m c t r l i hi, read_sin m c t r l i hi]
    by_cases hq : j.val < 5120
    · rw [if_neg (fun e => hv.1 e hq), if_neg (fun e => hv.1 e hq), if_pos hq, if_pos hq]
    · rw [if_pos (hv.2 hq), if_pos (hv.2 hq), if_neg hq, if_neg hq]

theorem sub_mul_eq (a b x y : EReal) : a * x - b * y = a * x + b * -y := by
  rw [sub_eq_add_neg, mul_neg]

/-- From equal arguments, no scale byte of the weight 0 or 255, the two result arrays are equal. -/
theorem result_eq (hn : Normal m) (m' : (ℓ : Loc Cert.QkvRefIdeal.nD Cert.QkvRefIdeal.τ Cert.QkvRefIdeal.sig) → Buf (Elt Ideal) ℓ) (c : Dev nD)
    (h0 : m' ((c.tc : Thread Cert.QkvRefIdeal.nD Cert.QkvRefIdeal.τ).loc Cert.QkvRefIdeal.main_arg0) = m ((c.tc : Thread nD τ).loc main_arg0))
    (h1 : m' ((c.tc : Thread Cert.QkvRefIdeal.nD Cert.QkvRefIdeal.τ).loc Cert.QkvRefIdeal.main_arg1) = m ((c.tc : Thread nD τ).loc main_arg1))
    (h2 : m' ((c.tc : Thread Cert.QkvRefIdeal.nD Cert.QkvRefIdeal.τ).loc Cert.QkvRefIdeal.main_arg2) = m ((c.tc : Thread nD τ).loc main_arg2))
    (h3 : m' ((c.tc : Thread Cert.QkvRefIdeal.nD Cert.QkvRefIdeal.τ).loc Cert.QkvRefIdeal.main_arg3) = m ((c.tc : Thread nD τ).loc main_arg3)) :
    (Cert.QkvRefIdeal.Gen.dats m' 0 c).arrAt 5 Cert.QkvRefIdeal.cfg0.N = (dats m 0 c).arrAt 5 cfg0.N := by
  funext y
  obtain ⟨i, j, rfl⟩ : ∃ (i j : Fin 6144), y = ix2 i j := ⟨y 0, y 1, by funext a; match a with | ⟨0, _⟩ => rfl | ⟨1, _⟩ => rfl⟩
  have hd : ∀ n : Fin 6144, Cert.MxQkvRef.dotR m' c i n = dotK m c i n := by
    intro n
    unfold Cert.MxQkvRef.dotR dotK
    rw [h0, h1, h2]
  have hk := kernel_value m hn c i j (⟨128 * (j.val / 128) + (j.val % 128 + 64) % 128, by omega⟩ : Fin 6144) (⟨j.val % 128, by omega⟩ : Fin 128) rfl rfl
  refine Eq.trans ?_ hk.symm
  by_cases hq : j.val < 5120
  · rw [if_pos hq, if_pos hq]
    by_cases hl : j.val % 128 < 64
    · rw [if_pos hl]
      refine (Cert.MxQkvRef.value_lo m' c i j (⟨128 * (j.val / 128) + (j.val % 128 + 64) % 128, by omega⟩ : Fin 6144) hq hl
        (by dsimp only; omega) (⟨j.val % 128, by omega⟩ : Fin 128) rfl).trans ?_
      rw [hd, hd, h3]
      exact sub_mul_eq _ _ _ _
    · rw [if_neg hl]
      refine (Cert.MxQkvRef.value_hi m' c i j (⟨128 * (j.val / 128) + (j.val % 128 + 64) % 128, by omega⟩ : Fin 6144) hq hl
        (by dsimp only; omega) (⟨j.val % 128, by omega⟩ : Fin 128) rfl).trans ?_
      rw [hd, hd, h3]
  · rw [if_neg hq, if_neg hq]
    refine (Cert.MxQkvRef.value_v m' c i j hq).trans ?_
    rw [hd, mul_one, mul_zero, add_zero]

end Cert.MxQkv

end
-- ==== Proof.lean ====
module

public import proofs.«01_k».proof.Defs
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeRefIdeal
public import proofs.«01_k».proof.Proof.Gen.RopeRefIdeal.Run
public import proofs.«01_k».proof.Proof.Gen.Pre_normal_scales
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.Gen.QkvRefIdeal.Value
public import proofs.«01_k».proof.Proof.Gen.Pre_normal_weight
public import proofs.«01_k».proof.Proof.Gen.DownIdeal.Value
public import proofs.«01_k».proof.Proof.Gen.DownRefIdeal.Value
public import proofs.«01_k».proof.Proof.Equation
public import proofs.«01_k».proof.Proof.RopeTables
public import proofs.«01_k».proof.Proof.QkvEquation
public import Idealize.ShloMosaic.Adequacy
public import Idealize.ShloMosaic.Init

@[expose] public section

noncomputable section

namespace Cert.Proof

open Idealize.ShloMosaic Idealize.SL.Sem Cert.Down

/-- Both programs run, and from equal arguments, none of whose scale bytes is 0 or 255, their results are equal. -/
theorem algebraic : Cert.algebraic_DownIdeal_DownRefIdeal_pre_normal_scales (hDownIdeal := Cert.DownIdeal.Gen.facts)
    (hDownRefIdeal := Cert.DownRefIdeal.Gen.facts) (hPre_normal_scales := Cert.Pre_normal_scales.Gen.facts) := by
  intro m g m' g' hpre hargs
  refine ⟨fun c => Cert.DownIdeal.Value.G5 m c, Cert.DownIdeal.Value.run m g, ?_⟩
  refine (θ_run (Cert.DownRefIdeal.defs (F := Ideal)) _ _).mono (fun r h c => ?_) (Cert.DownRefIdeal.Value.run_blocks m' g')
  obtain ⟨hv, hkept⟩ := h c
  obtain ⟨h0, h1, h2, h3, h4⟩ := hargs c
  exact ⟨hv.trans (Cert.MxDown.result_eq m (Cert.MxDown.normal_of_pre m hpre) m' c h0 h1 h2 h3 h4), hkept⟩

/-- The tables' reference is a straight-line host program that declares no semaphore. -/
theorem frame_ropeRef : Cert.quiescent_RopeRefIdeal (hRopeRefIdeal := Cert.RopeRefIdeal.Gen.facts) := fun m g _ =>
  (θ_run (Cert.RopeRefIdeal.defs (F := Ideal)) _ _).mono (fun r h => ⟨fun c => (h c).2.2,
      Idealize.ShloMosaic.sem_eq_zero_of_no_sems (by decide) r.2⟩)
    (Cert.RopeRefIdeal.Value.run m g)

/-- Both programs run, and from equal positions their cosine tables are equal and their sine tables are equal. -/
theorem algebraic_rope : Cert.algebraic_RopeIdeal_RopeRefIdeal (hRopeIdeal := Cert.RopeIdeal.Gen.facts)
    (hRopeRefIdeal := Cert.RopeRefIdeal.Gen.facts) := by
  intro m g m' g' _ hargs
  refine ⟨fun c => (Cert.RopeIdeal.Gen.dats m 0 c).arrAt 2 Cert.RopeIdeal.cfg0.N,
    fun c => (Cert.RopeIdeal.Gen.dats m 0 c).arrAt 3 Cert.RopeIdeal.cfg0.N, Cert.MxRope.run_blocks m g, ?_⟩
  refine (θ_run (Cert.RopeRefIdeal.defs (F := Ideal)) _ _).mono (fun r h c => ?_) (Cert.RopeRefIdeal.Value.run m' g')
  obtain ⟨hc, hs, hkept⟩ := h c
  refine ⟨hc.trans (Eq.trans ?_ (Cert.MxRope.cos_eq m c).symm), hs.trans (Eq.trans ?_ (Cert.MxRope.sin_eq m c).symm), hkept⟩
  · exact congrArg Cert.MxRopeRef.cosTable (hargs c)
  · exact congrArg Cert.MxRopeRef.sinTable (hargs c)

/-- Both programs run, and from equal arguments, no scale byte of the weight 0 or 255, their results are equal. -/
theorem algebraic_qkv : Cert.algebraic_QkvIdeal_QkvRefIdeal_pre_normal_weight (hQkvIdeal := Cert.QkvIdeal.Gen.facts)
    (hQkvRefIdeal := Cert.QkvRefIdeal.Gen.facts) (hPre_normal_weight := Cert.Pre_normal_weight.Gen.facts) := by
  intro m g m' g' hpre hargs
  refine ⟨fun c => (Cert.QkvIdeal.Gen.dats m 0 c).arrAt 5 Cert.QkvIdeal.cfg0.N, Cert.QkvIdeal.Value.run_blocks m g, ?_⟩
  refine (θ_run (Cert.QkvRefIdeal.defs (F := Ideal)) _ _).mono (fun r h c => ?_) (Cert.QkvRefIdeal.Value.run_blocks m' g')
  obtain ⟨hv, hkept⟩ := h c
  obtain ⟨h0, h1, h2, h3⟩ := hargs c
  exact ⟨hv.trans (Cert.MxQkv.result_eq m (Cert.MxQkv.normal_of_pre m hpre) m' c h0 h1 h2 h3), hkept⟩

theorem claim : Cert.Claim :=
  ⟨Cert.Down.Gen.facts, Cert.DownIdeal.Gen.facts, Cert.DownRefIdeal.Gen.facts, Cert.Rope.Gen.facts, Cert.RopeIdeal.Gen.facts,
    Cert.RopeRefIdeal.Gen.facts, Cert.Qkv.Gen.facts, Cert.QkvIdeal.Gen.facts, Cert.QkvRefIdeal.Gen.facts,
    Cert.Pre_normal_scales.Gen.facts, Cert.Pre_normal_weight.Gen.facts,
    fun m g _ => Cert.Down.Gen.frame m g,
    fun m g _ => Cert.DownIdeal.Gen.frame m g, fun m g _ => Cert.DownIdeal.Gen.frame m g,
    fun m g _ => Cert.DownRefIdeal.Gen.frame m g, fun m g _ => Cert.DownRefIdeal.Gen.frame m g,
    fun m g _ => Cert.Rope.Gen.frame m g, fun m g _ => Cert.RopeIdeal.Gen.frame m g, frame_ropeRef,
    fun m g _ => Cert.Qkv.Gen.frame m g,
    fun m g _ => Cert.QkvIdeal.Gen.frame m g, fun m g _ => Cert.QkvIdeal.Gen.frame m g,
    fun m g _ => Cert.QkvRefIdeal.Gen.frame m g, fun m g _ => Cert.QkvRefIdeal.Gen.frame m g,
    trivial, algebraic, trivial, algebraic_rope, trivial, algebraic_qkv⟩

end Cert.Proof

end
